-- ==== Defs.lean ====
def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdRefIdeal (m : (ℓ : Loc Cert.BwdRefIdeal.nD Cert.BwdRefIdeal.τ Cert.BwdRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def preserves_Bwd_BwdIdeal : Prop :=
  IdealRules.named_const.Statement Cert.BwdIdeal.κ "ln2" .f32 0x3F317218#32 ((Real.log 2 : ℝ) : EReal)

def algebraic_BwdIdeal_BwdRefIdeal [hBwdIdeal : Cert.BwdIdeal.Facts] [hBwdRefIdeal : Cert.BwdRefIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)
      ∧ m' ((c.tc : Thread Cert.BwdRefIdeal.nD Cert.BwdRefIdeal.τ).loc Cert.BwdRefIdeal.main_arg6) = m ((c.tc : Thread Cert.BwdIdeal.nD Cert.BwdIdeal.τ).loc Cert.BwdIdeal.main_arg6)) →
    ∃ (v0 : (c : Dev Cert.BwdIdeal.nD) → Buf (Elt Ideal) ((c.tc : Thread Cert.BwdIdeal.nD Cert.BwdIdeal.τ).loc Cert.BwdIdeal.main_v11_0)) (v1 : (c : Dev Cert.BwdIdeal.nD) → Buf (Elt Ideal) ((c.tc : Thread Cert.BwdIdeal.nD Cert.BwdIdeal.τ).loc Cert.BwdIdeal.main_v11_2)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v11_0) = v0 c
          ∧ r.2.mem ((c.tc : Thread Cert.BwdIdeal.nD Cert.BwdIdeal.τ).loc Cert.BwdIdeal.main_v11_2) = v1 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v7_0) = v0 c
          ∧ r.2.mem ((c.tc : Thread Cert.BwdRefIdeal.nD Cert.BwdRefIdeal.τ).loc Cert.BwdRefIdeal.main_v7_2) = v1 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5)
          ∧ r.2.mem ((c.tc : Thread Cert.BwdRefIdeal.nD Cert.BwdRefIdeal.τ).loc Cert.BwdRefIdeal.main_arg6) = m' ((c.tc : Thread Cert.BwdRefIdeal.nD Cert.BwdRefIdeal.τ).loc Cert.BwdRefIdeal.main_arg6))

def preserves_Fwd_FwdIdeal : Prop :=
  IdealRules.named_const.Statement Cert.FwdIdeal.κ "inv_n" .f32 0x39E38E39#32 ((1 / 2304 : ℝ) : EReal)
  ∧ IdealRules.named_const.Statement Cert.FwdIdeal.κ "ln2" .f32 0x3F317218#32 ((Real.log 2 : ℝ) : EReal)

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v5_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v5_2) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v17) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def Claim : Prop :=
  ∃ (hBwd : Cert.Bwd.Facts) (hBwdIdeal : Cert.BwdIdeal.Facts) (hBwdRefIdeal : Cert.BwdRefIdeal.Facts) (hFwd : Cert.Fwd.Facts) (hFwdIdeal : Cert.FwdIdeal.Facts) (hFwdRefIdeal : Cert.FwdRefIdeal.Facts),
    quiescent_Bwd (hBwd := hBwd)
    ∧ quiescent_BwdIdeal (hBwdIdeal := hBwdIdeal)
    ∧ quiescent_BwdRefIdeal (hBwdRefIdeal := hBwdRefIdeal)
    ∧ quiescent_Fwd (hFwd := hFwd)
    ∧ quiescent_FwdIdeal (hFwdIdeal := hFwdIdeal)
    ∧ quiescent_FwdRefIdeal (hFwdRefIdeal := hFwdRefIdeal)
    ∧ preserves_Bwd_BwdIdeal
    ∧ algebraic_BwdIdeal_BwdRefIdeal (hBwdIdeal := hBwdIdeal) (hBwdRefIdeal := hBwdRefIdeal)
    ∧ preserves_Fwd_FwdIdeal
    ∧ algebraic_FwdIdeal_FwdRefIdeal (hFwdIdeal := hFwdIdeal) (hFwdRefIdeal := hFwdRefIdeal)
-- ==== Bwd.lean ====
abbrev S7680x64000 : Shape := ⟨2, ![7680, 64000]⟩
abbrev S7680 : Shape := ⟨1, ![7680]⟩
abbrev S2304x64000 : Shape := ⟨2, ![2304, 64000]⟩
abbrev S18x500 : Shape := ⟨2, ![18, 500]⟩
abbrev S7680x1 : Shape := ⟨2, ![7680, 1]⟩
abbrev S7680x128 : Shape := ⟨2, ![7680, 128]⟩
abbrev S18x500x128 : Shape := ⟨3, ![18, 500, 128]⟩
abbrev S18x64000 : Shape := ⟨2, ![18, 64000]⟩
abbrev S7680x500 : Shape := ⟨2, ![7680, 500]⟩
abbrev S7680x2304 : Shape := ⟨2, ![7680, 2304]⟩
abbrev S768x1280 : Shape := ⟨2, ![768, 1280]⟩
abbrev S768x128 : Shape := ⟨2, ![768, 128]⟩
abbrev S2304x1280 : Shape := ⟨2, ![2304, 1280]⟩
abbrev S18x1280 : Shape := ⟨2, ![18, 1280]⟩
abbrev S768x500 : Shape := ⟨2, ![768, 500]⟩
abbrev S768x2304 : Shape := ⟨2, ![768, 2304]⟩
abbrev S3072x128 : Shape := ⟨2, ![3072, 128]⟩
abbrev S1x1280 : Shape := ⟨2, ![1, 1280]⟩
abbrev S128x1280 : Shape := ⟨2, ![128, 1280]⟩
abbrev S256x128 : Shape := ⟨2, ![256, 128]⟩
abbrev S256 : Shape := ⟨1, ![256]⟩
abbrev S256x1 : Shape := ⟨2, ![256, 1]⟩
abbrev S256x2304 : Shape := ⟨2, ![256, 2304]⟩
abbrev S256x1280 : Shape := ⟨2, ![256, 1280]⟩
abbrev S768x116 : Shape := ⟨2, ![768, 116]⟩

abbrev nBuf : Space → Nat
  | .hbm => 21
  | .vmem => 22
  | .smem => 0
  | _ => 0

abbrev bufTy : (tb : Table) → Fin (tcTables nBuf tb) → BufTy
  | .hbm, ⟨0, _⟩ => ⟨S7680x64000, .f32⟩
  | .hbm, ⟨1, _⟩ => ⟨S7680, .f32⟩
  | .hbm, ⟨2, _⟩ => ⟨S7680, .f32⟩
  | .hbm, ⟨3, _⟩ => ⟨S7680, .f32⟩
  | .hbm, ⟨4, _⟩ => ⟨S7680, .i32⟩
  | .hbm, ⟨5, _⟩ => ⟨S2304x64000, .fp8e4m3⟩
  | .hbm, ⟨6, _⟩ => ⟨S18x500, .f32⟩
  | .hbm, ⟨7, _⟩ => ⟨S7680x1, .f32⟩
  | .hbm, ⟨8, _⟩ => ⟨S7680x128, .f32⟩
  | .hbm, ⟨9, _⟩ => ⟨S7680x1, .f32⟩
  | .hbm, ⟨10, _⟩ => ⟨S7680x128, .f32⟩
  | .hbm, ⟨11, _⟩ => ⟨S7680x1, .f32⟩
  | .hbm, ⟨12, _⟩ => ⟨S7680x128, .f32⟩
  | .hbm, ⟨13, _⟩ => ⟨S7680x128, .f32⟩
  | .hbm, ⟨14, _⟩ => ⟨S7680x1, .i32⟩
  | .hbm, ⟨15, _⟩ => ⟨S7680x128, .i32⟩
  | .hbm, ⟨16, _⟩ => ⟨S18x500x128, .f32⟩
  | .hbm, ⟨17, _⟩ => ⟨S18x64000, .f32⟩
  | .hbm, ⟨18, _⟩ => ⟨S7680x64000, .fp8e4m3⟩
  | .hbm, ⟨19, _⟩ => ⟨S7680x500, .f32⟩
  | .hbm, ⟨20, _⟩ => ⟨S7680x2304, .bf16⟩
  | .local _ .vmem, ⟨0, _⟩ => ⟨S768x1280, .f32⟩
  | .local _ .vmem, ⟨1, _⟩ => ⟨S768x1280, .f32⟩
  | .local _ .vmem, ⟨2, _⟩ => ⟨S768x128, .f32⟩
  | .local _ .vmem, ⟨3, _⟩ => ⟨S768x128, .f32⟩
  | .local _ .vmem, ⟨4, _⟩ => ⟨S768x128, .f32⟩
  | .local _ .vmem, ⟨5, _⟩ => ⟨S768x128, .f32⟩
  | .local _ .vmem, ⟨6, _⟩ => ⟨S768x128, .i32⟩
  | .local _ .vmem, ⟨7, _⟩ => ⟨S768x128, .i32⟩
  | .local _ .vmem, ⟨8, _⟩ => ⟨S2304x1280, .fp8e4m3⟩
  | .local _ .vmem, ⟨9, _⟩ => ⟨S2304x1280, .fp8e4m3⟩
  | .local _ .vmem, ⟨10, _⟩ => ⟨S18x1280, .f32⟩
  | .local _ .vmem, ⟨11, _⟩ => ⟨S18x1280, .f32⟩
  | .local _ .vmem, ⟨12, _⟩ => ⟨S768x1280, .fp8e4m3⟩
  | .local _ .vmem, ⟨13, _⟩ => ⟨S768x1280, .fp8e4m3⟩
  | .local _ .vmem, ⟨14, _⟩ => ⟨S768x500, .f32⟩
  | .local _ .vmem, ⟨15, _⟩ => ⟨S768x500, .f32⟩
  | .local _ .vmem, ⟨16, _⟩ => ⟨S768x2304, .bf16⟩
  | .local _ .vmem, ⟨17, _⟩ => ⟨S768x2304, .bf16⟩
  | .local _ .vmem, ⟨18, _⟩ => ⟨S768x1280, .bf16⟩
  | .local _ .vmem, ⟨19, _⟩ => ⟨S2304x1280, .bf16⟩
  | .local _ .vmem, ⟨20, _⟩ => ⟨S768x2304, .f32⟩
  | .local _ .vmem, ⟨21, _⟩ => ⟨S3072x128, .f32⟩
  | _, _ => ⟨S7680x64000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![10, 50], ![false, false]⟩

def k0_mult1 (i : grid0.Coords) : BitVec 32 :=
  let arg1 : BitVec 32 := BitVec.ofNat 32 (i 1).val
  let c10_i32 : BitVec 32 := 10#32
  let v242 : BitVec 32 := Scalar.muli arg1 c10_i32
  let c0_i32_98 : BitVec 32 := 0#32
  let v243 : BitVec 32 := Scalar.addi v242 c0_i32_98
  let c7_i32 : BitVec 32 := 7#32
  let v244 : BitVec 32 := Scalar.shrui v243 c7_i32
  let c768_i32 : BitVec 32 := 768#32
  let v245 : BitVec 32 := Scalar.muli v244 c768_i32
  let c0_i32_99 : BitVec 32 := 0#32
  let v246 : BitVec 32 := Scalar.addi v245 c0_i32_99
  v246
def k0_off1 (i : grid0.Coords) (c0_i32_98 : BitVec 32) (c0_i32_99 : BitVec 32) : Fin 2 → Nat :=
  let arg1 : BitVec 32 := BitVec.ofNat 32 (i 1).val
  let c10_i32 : BitVec 32 := 10#32
  let v242 : BitVec 32 := Scalar.muli arg1 c10_i32
  let v243 : BitVec 32 := Scalar.addi v242 c0_i32_98
  let c7_i32 : BitVec 32 := 7#32
  let v244 : BitVec 32 := Scalar.shrui v243 c7_i32
  let c768_i32 : BitVec 32 := 768#32
  let v245 : BitVec 32 := Scalar.muli v244 c768_i32
  let v246 : BitVec 32 := Scalar.addi v245 c0_i32_99
  let v247 : BitVec 32 := v246
  let v251 : Index := Scalar.indexCast v247
  let c0_100 : Index := 0#32
  ![v251.toNat, 0]
def k0_mult2 (i : grid0.Coords) : BitVec 32 :=
  let arg1 : BitVec 32 := BitVec.ofNat 32 (i 1).val
  let c10_i32_119 : BitVec 32 := 10#32
  let v305 : BitVec 32 := Scalar.muli arg1 c10_i32_119
  let c1_i32 : BitVec 32 := 1#32
  let v306 : BitVec 32 := Scalar.addi v305 c1_i32
  let c7_i32_120 : BitVec 32 := 7#32
  let v307 : BitVec 32 := Scalar.shrui v306 c7_i32_120
  let c768_i32_121 : BitVec 32 := 768#32
  let v308 : BitVec 32 := Scalar.muli v307 c768_i32_121
  let c0_i32_122 : BitVec 32 := 0#32
  let v309 : BitVec 32 := Scalar.addi v308 c0_i32_122
  v309
def k0_mult3 (i : grid0.Coords) : BitVec 32 :=
  let arg1 : BitVec 32 := BitVec.ofNat 32 (i 1).val
  let c10_i32_143 : BitVec 32 := 10#32
  let v368 : BitVec 32 := Scalar.muli arg1 c10_i32_143
  let c2_i32 : BitVec 32 := 2#32
  let v369 : BitVec 32 := Scalar.addi v368 c2_i32
  let c7_i32_144 : BitVec 32 := 7#32
  let v370 : BitVec 32 := Scalar.shrui v369 c7_i32_144
  let c768_i32_145 : BitVec 32 := 768#32
  let v371 : BitVec 32 := Scalar.muli v370 c768_i32_145
  let c0_i32_146 : BitVec 32 := 0#32
  let v372 : BitVec 32 := Scalar.addi v371 c0_i32_146
  v372
def k0_mult4 (i : grid0.Coords) : BitVec 32 :=
  let arg1 : BitVec 32 := BitVec.ofNat 32 (i 1).val
  let c10_i32_167 : BitVec 32 := 10#32
  let v431 : BitVec 32 := Scalar.muli arg1 c10_i32_167
  let c3_i32 : BitVec 32 := 3#32
  let v432 : BitVec 32 := Scalar.addi v431 c3_i32
  let c7_i32_168 : BitVec 32 := 7#32
  let v433 : BitVec 32 := Scalar.shrui v432 c7_i32_168
  let c768_i32_169 : BitVec 32 := 768#32
  let v434 : BitVec 32 := Scalar.muli v433 c768_i32_169
  let c0_i32_170 : BitVec 32 := 0#32
  let v435 : BitVec 32 := Scalar.addi v434 c0_i32_170
  v435
def k0_mult5 (i : grid0.Coords) : BitVec 32 :=
  let arg1 : BitVec 32 := BitVec.ofNat 32 (i 1).val
  let c10_i32_191 : BitVec 32 := 10#32
  let v494 : BitVec 32 := Scalar.muli arg1 c10_i32_191
  let c4_i32 : BitVec 32 := 4#32
  let v495 : BitVec 32 := Scalar.addi v494 c4_i32
  let c7_i32_192 : BitVec 32 := 7#32
  let v496 : BitVec 32 := Scalar.shrui v495 c7_i32_192
  let c768_i32_193 : BitVec 32 := 768#32
  let v497 : BitVec 32 := Scalar.muli v496 c768_i32_193
  let c0_i32_194 : BitVec 32 := 0#32
  let v498 : BitVec 32 := Scalar.addi v497 c0_i32_194
  v498
def k0_mult6 (i : grid0.Coords) : BitVec 32 :=
  let arg1 : BitVec 32 := BitVec.ofNat 32 (i 1).val
  let c10_i32_215 : BitVec 32 := 10#32
  let v557 : BitVec 32 := Scalar.muli arg1 c10_i32_215
  let c5_i32 : BitVec 32 := 5#32
  let v558 : BitVec 32 := Scalar.addi v557 c5_i32
  let c7_i32_216 : BitVec 32 := 7#32
  let v559 : BitVec 32 := Scalar.shrui v558 c7_i32_216
  let c768_i32_217 : BitVec 32 := 768#32
  let v560 : BitVec 32 := Scalar.muli v559 c768_i32_217
  let c0_i32_218 : BitVec 32 := 0#32
  let v561 : BitVec 32 := Scalar.addi v560 c0_i32_218
  v561
def k0_mult7 (i : grid0.Coords) : BitVec 32 :=
  let arg1 : BitVec 32 := BitVec.ofNat 32 (i 1).val
  let c10_i32_240 : BitVec 32 := 10#32
  let v620 : BitVec 32 := Scalar.muli arg1 c10_i32_240
  let c6_i32 : BitVec 32 := 6#32
  let v621 : BitVec 32 := Scalar.addi v620 c6_i32
  let c7_i32_241 : BitVec 32 := 7#32
  let v622 : BitVec 32 := Scalar.shrui v621 c7_i32_241
  let c768_i32_242 : BitVec 32 := 768#32
  let v623 : BitVec 32 := Scalar.muli v622 c768_i32_242
  let c0_i32_243 : BitVec 32 := 0#32
  let v624 : BitVec 32 := Scalar.addi v623 c0_i32_243
  v624
def k0_mult8 (i : grid0.Coords) : BitVec 32 :=
  let arg1 : BitVec 32 := BitVec.ofNat 32 (i 1).val
  let c10_i32_264 : BitVec 32 := 10#32
  let v683 : BitVec 32 := Scalar.muli arg1 c10_i32_264
  let c7_i32_265 : BitVec 32 := 7#32
  let v684 : BitVec 32 := Scalar.addi v683 c7_i32_265
  let c7_i32_266 : BitVec 32 := 7#32
  let v685 : BitVec 32 := Scalar.shrui v684 c7_i32_266
  let c768_i32_267 : BitVec 32 := 768#32
  let v686 : BitVec 32 := Scalar.muli v685 c768_i32_267
  let c0_i32_268 : BitVec 32 := 0#32
  let v687 : BitVec 32 := Scalar.addi v686 c0_i32_268
  v687
def k0_mult9 (i : grid0.Coords) : BitVec 32 :=
  let arg1 : BitVec 32 := BitVec.ofNat 32 (i 1).val
  let c10_i32_289 : BitVec 32 := 10#32
  let v746 : BitVec 32 := Scalar.muli arg1 c10_i32_289
  let c8_i32 : BitVec 32 := 8#32
  let v747 : BitVec 32 := Scalar.addi v746 c8_i32
  let c7_i32_290 : BitVec 32 := 7#32
  let v748 : BitVec 32 := Scalar.shrui v747 c7_i32_290
  let c768_i32_291 : BitVec 32 := 768#32
  let v749 : BitVec 32 := Scalar.muli v748 c768_i32_291
  let c0_i32_292 : BitVec 32 := 0#32
  let v750 : BitVec 32 := Scalar.addi v749 c0_i32_292
  v750
def k0_mult10 (i : grid0.Coords) : BitVec 32 :=
  let arg1 : BitVec 32 := BitVec.ofNat 32 (i 1).val
  let c10_i32_313 : BitVec 32 := 10#32
  let v809 : BitVec 32 := Scalar.muli arg1 c10_i32_313
  let c9_i32 : BitVec 32 := 9#32
  let v810 : BitVec 32 := Scalar.addi v809 c9_i32
  let c7_i32_314 : BitVec 32 := 7#32
  let v811 : BitVec 32 := Scalar.shrui v810 c7_i32_314
  let c768_i32_315 : BitVec 32 := 768#32
  let v812 : BitVec 32 := Scalar.muli v811 c768_i32_315
  let c0_i32_316 : BitVec 32 := 0#32
  let v813 : BitVec 32 := Scalar.addi v812 c0_i32_316
  v813
def k0_mult11 (i : grid0.Coords) : BitVec 32 :=
  let arg1 : BitVec 32 := BitVec.ofNat 32 (i 1).val
  let c10_i32_354 : BitVec 32 := 10#32
  let v890 : BitVec 32 := Scalar.muli arg1 c10_i32_354
  let c0_i32_355 : BitVec 32 := 0#32
  let v891 : BitVec 32 := Scalar.addi v890 c0_i32_355
  let c7_i32_356 : BitVec 32 := 7#32
  let v892 : BitVec 32 := Scalar.shrui v891 c7_i32_356
  let c768_i32_357 : BitVec 32 := 768#32
  let v893 : BitVec 32 := Scalar.muli v892 c768_i32_357
  let c256_i32_358 : BitVec 32 := 256#32
  let v894 : BitVec 32 := Scalar.addi v893 c256_i32_358
  v894
def k0_mult12 (i : grid0.Coords) : BitVec 32 :=
  let arg1 : BitVec 32 := BitVec.ofNat 32 (i 1).val
  let c10_i32_380 : BitVec 32 := 10#32
  let v953 : BitVec 32 := Scalar.muli arg1 c10_i32_380
  let c1_i32_381 : BitVec 32 := 1#32
  let v954 : BitVec 32 := Scalar.addi v953 c1_i32_381
  let c7_i32_382 : BitVec 32 := 7#32
  let v955 : BitVec 32 := Scalar.shrui v954 c7_i32_382
  let c768_i32_383 : BitVec 32 := 768#32
  let v956 : BitVec 32 := Scalar.muli v955 c768_i32_383
  let c256_i32_384 : BitVec 32 := 256#32
  let v957 : BitVec 32 := Scalar.addi v956 c256_i32_384
  v957
def k0_mult13 (i : grid0.Coords) : BitVec 32 :=
  let arg1 : BitVec 32 := BitVec.ofNat 32 (i 1).val
  let c10_i32_406 : BitVec 32 := 10#32
  let v1016 : BitVec 32 := Scalar.muli arg1 c10_i32_406
  let c2_i32_407 : BitVec 32 := 2#32
  let v1017 : BitVec 32 := Scalar.addi v1016 c2_i32_407
  let c7_i32_408 : BitVec 32 := 7#32
  let v1018 : BitVec 32 := Scalar.shrui v1017 c7_i32_408
  let c768_i32_409 : BitVec 32 := 768#32
  let v1019 : BitVec 32 := Scalar.muli v1018 c768_i32_409
  let c256_i32_410 : BitVec 32 := 256#32
  let v1020 : BitVec 32 := Scalar.addi v1019 c256_i32_410
  v1020
def k0_mult14 (i : grid0.Coords) : BitVec 32 :=
  let arg1 : BitVec 32 := BitVec.ofNat 32 (i 1).val
  let c10_i32_432 : BitVec 32 := 10#32
  let v1079 : BitVec 32 := Scalar.muli arg1 c10_i32_432
  let c3_i32_433 : BitVec 32 := 3#32
  let v1080 : BitVec 32 := Scalar.addi v1079 c3_i32_433
  let c7_i32_434 : BitVec 32 := 7#32
  let v1081 : BitVec 32 := Scalar.shrui v1080 c7_i32_434
  let c768_i32_435 : BitVec 32 := 768#32
  let v1082 : BitVec 32 := Scalar.muli v1081 c768_i32_435
  let c256_i32_436 : BitVec 32 := 256#32
  let v1083 : BitVec 32 := Scalar.addi v1082 c256_i32_436
  v1083
def k0_mult15 (i : grid0.Coords) : BitVec 32 :=
  let arg1 : BitVec 32 := BitVec.ofNat 32 (i 1).val
  let c10_i32_458 : BitVec 32 := 10#32
  let v1142 : BitVec 32 := Scalar.muli arg1 c10_i32_458
  let c4_i32_459 : BitVec 32 := 4#32
  let v1143 : BitVec 32 := Scalar.addi v1142 c4_i32_459
  let c7_i32_460 : BitVec 32 := 7#32
  let v1144 : BitVec 32 := Scalar.shrui v1143 c7_i32_460
  let c768_i32_461 : BitVec 32 := 768#32
  let v1145 : BitVec 32 := Scalar.muli v1144 c768_i32_461
  let c256_i32_462 : BitVec 32 := 256#32
  let v1146 : BitVec 32 := Scalar.addi v1145 c256_i32_462
  v1146
def k0_mult16 (i : grid0.Coords) : BitVec 32 :=
  let arg1 : BitVec 32 := BitVec.ofNat 32 (i 1).val
  let c10_i32_484 : BitVec 32 := 10#32
  let v1205 : BitVec 32 := Scalar.muli arg1 c10_i32_484
  let c5_i32_485 : BitVec 32 := 5#32
  let v1206 : BitVec 32 := Scalar.addi v1205 c5_i32_485
  let c7_i32_486 : BitVec 32 := 7#32
  let v1207 : BitVec 32 := Scalar.shrui v1206 c7_i32_486
  let c768_i32_487 : BitVec 32 := 768#32
  let v1208 : BitVec 32 := Scalar.muli v1207 c768_i32_487
  let c256_i32_488 : BitVec 32 := 256#32
  let v1209 : BitVec 32 := Scalar.addi v1208 c256_i32_488
  v1209
def k0_mult17 (i : grid0.Coords) : BitVec 32 :=
  let arg1 : BitVec 32 := BitVec.ofNat 32 (i 1).val
  let c10_i32_510 : BitVec 32 := 10#32
  let v1268 : BitVec 32 := Scalar.muli arg1 c10_i32_510
  let c6_i32_511 : BitVec 32 := 6#32
  let v1269 : BitVec 32 := Scalar.addi v1268 c6_i32_511
  let c7_i32_512 : BitVec 32 := 7#32
  let v1270 : BitVec 32 := Scalar.shrui v1269 c7_i32_512
  let c768_i32_513 : BitVec 32 := 768#32
  let v1271 : BitVec 32 := Scalar.muli v1270 c768_i32_513
  let c256_i32_514 : BitVec 32 := 256#32
  let v1272 : BitVec 32 := Scalar.addi v1271 c256_i32_514
  v1272
def k0_mult18 (i : grid0.Coords) : BitVec 32 :=
  let arg1 : BitVec 32 := BitVec.ofNat 32 (i 1).val
  let c10_i32_536 : BitVec 32 := 10#32
  let v1331 : BitVec 32 := Scalar.muli arg1 c10_i32_536
  let c7_i32_537 : BitVec 32 := 7#32
  let v1332 : BitVec 32 := Scalar.addi v1331 c7_i32_537
  let c7_i32_538 : BitVec 32 := 7#32
  let v1333 : BitVec 32 := Scalar.shrui v1332 c7_i32_538
  let c768_i32_539 : BitVec 32 := 768#32
  let v1334 : BitVec 32 := Scalar.muli v1333 c768_i32_539
  let c256_i32_540 : BitVec 32 := 256#32
  let v1335 : BitVec 32 := Scalar.addi v1334 c256_i32_540
  v1335
def k0_mult19 (i : grid0.Coords) : BitVec 32 :=
  let arg1 : BitVec 32 := BitVec.ofNat 32 (i 1).val
  let c10_i32_562 : BitVec 32 := 10#32
  let v1394 : BitVec 32 := Scalar.muli arg1 c10_i32_562
  let c8_i32_563 : BitVec 32 := 8#32
  let v1395 : BitVec 32 := Scalar.addi v1394 c8_i32_563
  let c7_i32_564 : BitVec 32 := 7#32
  let v1396 : BitVec 32 := Scalar.shrui v1395 c7_i32_564
  let c768_i32_565 : BitVec 32 := 768#32
  let v1397 : BitVec 32 := Scalar.muli v1396 c768_i32_565
  let c256_i32_566 : BitVec 32 := 256#32
  let v1398 : BitVec 32 := Scalar.addi v1397 c256_i32_566
  v1398
def k0_mult20 (i : grid0.Coords) : BitVec 32 :=
  let arg1 : BitVec 32 := BitVec.ofNat 32 (i 1).val
  let c10_i32_588 : BitVec 32 := 10#32
  let v1457 : BitVec 32 := Scalar.muli arg1 c10_i32_588
  let c9_i32_589 : BitVec 32 := 9#32
  let v1458 : BitVec 32 := Scalar.addi v1457 c9_i32_589
  let c7_i32_590 : BitVec 32 := 7#32
  let v1459 : BitVec 32 := Scalar.shrui v1458 c7_i32_590
  let c768_i32_591 : BitVec 32 := 768#32
  let v1460 : BitVec 32 := Scalar.muli v1459 c768_i32_591
  let c256_i32_592 : BitVec 32 := 256#32
  let v1461 : BitVec 32 := Scalar.addi v1460 c256_i32_592
  v1461
def k0_mult21 (i : grid0.Coords) : BitVec 32 :=
  let arg1 : BitVec 32 := BitVec.ofNat 32 (i 1).val
  let c10_i32_630 : BitVec 32 := 10#32
  let v1538 : BitVec 32 := Scalar.muli arg1 c10_i32_630
  let c0_i32_631 : BitVec 32 := 0#32
  let v1539 : BitVec 32 := Scalar.addi v1538 c0_i32_631
  let c7_i32_632 : BitVec 32 := 7#32
  let v1540 : BitVec 32 := Scalar.shrui v1539 c7_i32_632
  let c768_i32_633 : BitVec 32 := 768#32
  let v1541 : BitVec 32 := Scalar.muli v1540 c768_i32_633
  let c512_i32_634 : BitVec 32 := 512#32
  let v1542 : BitVec 32 := Scalar.addi v1541 c512_i32_634
  v1542
def k0_mult22 (i : grid0.Coords) : BitVec 32 :=
  let arg1 : BitVec 32 := BitVec.ofNat 32 (i 1).val
  let c10_i32_656 : BitVec 32 := 10#32
  let v1601 : BitVec 32 := Scalar.muli arg1 c10_i32_656
  let c1_i32_657 : BitVec 32 := 1#32
  let v1602 : BitVec 32 := Scalar.addi v1601 c1_i32_657
  let c7_i32_658 : BitVec 32 := 7#32
  let v1603 : BitVec 32 := Scalar.shrui v1602 c7_i32_658
  let c768_i32_659 : BitVec 32 := 768#32
  let v1604 : BitVec 32 := Scalar.muli v1603 c768_i32_659
  let c512_i32_660 : BitVec 32 := 512#32
  let v1605 : BitVec 32 := Scalar.addi v1604 c512_i32_660
  v1605
def k0_mult23 (i : grid0.Coords) : BitVec 32 :=
  let arg1 : BitVec 32 := BitVec.ofNat 32 (i 1).val
  let c10_i32_682 : BitVec 32 := 10#32
  let v1664 : BitVec 32 := Scalar.muli arg1 c10_i32_682
  let c2_i32_683 : BitVec 32 := 2#32
  let v1665 : BitVec 32 := Scalar.addi v1664 c2_i32_683
  let c7_i32_684 : BitVec 32 := 7#32
  let v1666 : BitVec 32 := Scalar.shrui v1665 c7_i32_684
  let c768_i32_685 : BitVec 32 := 768#32
  let v1667 : BitVec 32 := Scalar.muli v1666 c768_i32_685
  let c512_i32_686 : BitVec 32 := 512#32
  let v1668 : BitVec 32 := Scalar.addi v1667 c512_i32_686
  v1668
def k0_mult24 (i : grid0.Coords) : BitVec 32 :=
  let arg1 : BitVec 32 := BitVec.ofNat 32 (i 1).val
  let c10_i32_708 : BitVec 32 := 10#32
  let v1727 : BitVec 32 := Scalar.muli arg1 c10_i32_708
  let c3_i32_709 : BitVec 32 := 3#32
  let v1728 : BitVec 32 := Scalar.addi v1727 c3_i32_709
  let c7_i32_710 : BitVec 32 := 7#32
  let v1729 : BitVec 32 := Scalar.shrui v1728 c7_i32_710
  let c768_i32_711 : BitVec 32 := 768#32
  let v1730 : BitVec 32 := Scalar.muli v1729 c768_i32_711
  let c512_i32_712 : BitVec 32 := 512#32
  let v1731 : BitVec 32 := Scalar.addi v1730 c512_i32_712
  v1731
def k0_mult25 (i : grid0.Coords) : BitVec 32 :=
  let arg1 : BitVec 32 := BitVec.ofNat 32 (i 1).val
  let c10_i32_734 : BitVec 32 := 10#32
  let v1790 : BitVec 32 := Scalar.muli arg1 c10_i32_734
  let c4_i32_735 : BitVec 32 := 4#32
  let v1791 : BitVec 32 := Scalar.addi v1790 c4_i32_735
  let c7_i32_736 : BitVec 32 := 7#32
  let v1792 : BitVec 32 := Scalar.shrui v1791 c7_i32_736
  let c768_i32_737 : BitVec 32 := 768#32
  let v1793 : BitVec 32 := Scalar.muli v1792 c768_i32_737
  let c512_i32_738 : BitVec 32 := 512#32
  let v1794 : BitVec 32 := Scalar.addi v1793 c512_i32_738
  v1794
def k0_mult26 (i : grid0.Coords) : BitVec 32 :=
  let arg1 : BitVec 32 := BitVec.ofNat 32 (i 1).val
  let c10_i32_760 : BitVec 32 := 10#32
  let v1853 : BitVec 32 := Scalar.muli arg1 c10_i32_760
  let c5_i32_761 : BitVec 32 := 5#32
  let v1854 : BitVec 32 := Scalar.addi v1853 c5_i32_761
  let c7_i32_762 : BitVec 32 := 7#32
  let v1855 : BitVec 32 := Scalar.shrui v1854 c7_i32_762
  let c768_i32_763 : BitVec 32 := 768#32
  let v1856 : BitVec 32 := Scalar.muli v1855 c768_i32_763
  let c512_i32_764 : BitVec 32 := 512#32
  let v1857 : BitVec 32 := Scalar.addi v1856 c512_i32_764
  v1857
def k0_mult27 (i : grid0.Coords) : BitVec 32 :=
  let arg1 : BitVec 32 := BitVec.ofNat 32 (i 1).val
  let c10_i32_786 : BitVec 32 := 10#32
  let v1916 : BitVec 32 := Scalar.muli arg1 c10_i32_786
  let c6_i32_787 : BitVec 32 := 6#32
  let v1917 : BitVec 32 := Scalar.addi v1916 c6_i32_787
  let c7_i32_788 : BitVec 32 := 7#32
  let v1918 : BitVec 32 := Scalar.shrui v1917 c7_i32_788
  let c768_i32_789 : BitVec 32 := 768#32
  let v1919 : BitVec 32 := Scalar.muli v1918 c768_i32_789
  let c512_i32_790 : BitVec 32 := 512#32
  let v1920 : BitVec 32 := Scalar.addi v1919 c512_i32_790
  v1920
def k0_mult28 (i : grid0.Coords) : BitVec 32 :=
  let arg1 : BitVec 32 := BitVec.ofNat 32 (i 1).val
  let c10_i32_812 : BitVec 32 := 10#32
  let v1979 : BitVec 32 := Scalar.muli arg1 c10_i32_812
  let c7_i32_813 : BitVec 32 := 7#32
  let v1980 : BitVec 32 := Scalar.addi v1979 c7_i32_813
  let c7_i32_814 : BitVec 32 := 7#32
  let v1981 : BitVec 32 := Scalar.shrui v1980 c7_i32_814
  let c768_i32_815 : BitVec 32 := 768#32
  let v1982 : BitVec 32 := Scalar.muli v1981 c768_i32_815
  let c512_i32_816 : BitVec 32 := 512#32
  let v1983 : BitVec 32 := Scalar.addi v1982 c512_i32_816
  v1983
def k0_mult29 (i : grid0.Coords) : BitVec 32 :=
  let arg1 : BitVec 32 := BitVec.ofNat 32 (i 1).val
  let c10_i32_838 : BitVec 32 := 10#32
  let v2042 : BitVec 32 := Scalar.muli arg1 c10_i32_838
  let c8_i32_839 : BitVec 32 := 8#32
  let v2043 : BitVec 32 := Scalar.addi v2042 c8_i32_839
  let c7_i32_840 : BitVec 32 := 7#32
  let v2044 : BitVec 32 := Scalar.shrui v2043 c7_i32_840
  let c768_i32_841 : BitVec 32 := 768#32
  let v2045 : BitVec 32 := Scalar.muli v2044 c768_i32_841
  let c512_i32_842 : BitVec 32 := 512#32
  let v2046 : BitVec 32 := Scalar.addi v2045 c512_i32_842
  v2046
def k0_mult30 (i : grid0.Coords) : BitVec 32 :=
  let arg1 : BitVec 32 := BitVec.ofNat 32 (i 1).val
  let c10_i32_864 : BitVec 32 := 10#32
  let v2105 : BitVec 32 := Scalar.muli arg1 c10_i32_864
  let c9_i32_865 : BitVec 32 := 9#32
  let v2106 : BitVec 32 := Scalar.addi v2105 c9_i32_865
  let c7_i32_866 : BitVec 32 := 7#32
  let v2107 : BitVec 32 := Scalar.shrui v2106 c7_i32_866
  let c768_i32_867 : BitVec 32 := 768#32
  let v2108 : BitVec 32 := Scalar.muli v2107 c768_i32_867
  let c512_i32_868 : BitVec 32 := 512#32
  let v2109 : BitVec 32 := Scalar.addi v2108 c512_i32_868
  v2109
def k0_cond2 (i : grid0.Coords) : BitVec 1 :=
  let arg1 : BitVec 32 := BitVec.ofNat 32 (i 1).val
  let c49_i32 : BitVec 32 := 49#32
  let v2127 : BitVec 1 := Scalar.cmpi .eq arg1 c49_i32
  let v2128 : BitVec 32 := Scalar.extui v2127
  let c0_i32_880 : BitVec 32 := 0#32
  let v2129 : BitVec 1 := Scalar.cmpi .ne v2128 c0_i32_880
  v2129

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2304x1280 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S18x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x1280 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x500 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S768x2304 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== BwdIdeal.lean ====
variable {F : FTy → Type} [FloatOps F] [Named F]
def κ : String → Option EReal := fun
  | "ln2" => some ((Real.log 2 : ℝ) : EReal)
  | _ => none
-- ==== BwdRefIdeal.lean ====
abbrev S7680x64000 : Shape := ⟨2, ![7680, 64000]⟩
abbrev S7680 : Shape := ⟨1, ![7680]⟩
abbrev S2304x64000 : Shape := ⟨2, ![2304, 64000]⟩
abbrev S18x500 : Shape := ⟨2, ![18, 500]⟩
abbrev S18x1x500x1 : Shape := ⟨4, ![18, 1, 500, 1]⟩
abbrev S18x128x500x128 : Shape := ⟨4, ![18, 128, 500, 128]⟩
abbrev S7680x1 : Shape := ⟨2, ![7680, 1]⟩
abbrev S7680x500 : Shape := ⟨2, ![7680, 500]⟩
abbrev S7680x2304 : Shape := ⟨2, ![7680, 2304]⟩
abbrev S7680x500x128 : Shape := ⟨3, ![7680, 500, 128]⟩
abbrev S7680x500x1 : Shape := ⟨3, ![7680, 500, 1]⟩

abbrev nBuf : Space → Nat
  | .hbm => 17
  | .vmem => 10
  | .smem => 0
  | _ => 0

abbrev bufTy : (tb : Table) → Fin (tcTables nBuf tb) → BufTy
  | .hbm, ⟨0, _⟩ => ⟨S7680x64000, .f32⟩
  | .hbm, ⟨1, _⟩ => ⟨S7680, .f32⟩
  | .hbm, ⟨2, _⟩ => ⟨S7680, .f32⟩
  | .hbm, ⟨3, _⟩ => ⟨S7680, .f32⟩
  | .hbm, ⟨4, _⟩ => ⟨S7680, .i32⟩
  | .hbm, ⟨5, _⟩ => ⟨S2304x64000, .fp8e4m3⟩
  | .hbm, ⟨6, _⟩ => ⟨S18x500, .f32⟩
  | .hbm, ⟨7, _⟩ => ⟨S18x1x500x1, .f32⟩
  | .hbm, ⟨8, _⟩ => ⟨S18x128x500x128, .f32⟩
  | .hbm, ⟨9, _⟩ => ⟨S7680x1, .f32⟩
  | .hbm, ⟨10, _⟩ => ⟨S7680x1, .f32⟩
  | .hbm, ⟨11, _⟩ => ⟨S7680x1, .f32⟩
  | .hbm, ⟨12, _⟩ => ⟨S7680x1, .i32⟩
  | .hbm, ⟨13, _⟩ => ⟨S2304x64000, .f32⟩
  | .hbm, ⟨14, _⟩ => ⟨S7680x64000, .fp8e4m3⟩
  | .hbm, ⟨15, _⟩ => ⟨S7680x500, .f32⟩
  | .hbm, ⟨16, _⟩ => ⟨S7680x2304, .bf16⟩
  | .local _ .vmem, ⟨0, _⟩ => ⟨S7680x64000, .f32⟩
  | .local _ .vmem, ⟨1, _⟩ => ⟨S7680x1, .f32⟩
  | .local _ .vmem, ⟨2, _⟩ => ⟨S7680x1, .f32⟩
  | .local _ .vmem, ⟨3, _⟩ => ⟨S7680x1, .f32⟩
  | .local _ .vmem, ⟨4, _⟩ => ⟨S7680x1, .i32⟩
  | .local _ .vmem, ⟨5, _⟩ => ⟨S2304x64000, .fp8e4m3⟩
  | .local _ .vmem, ⟨6, _⟩ => ⟨S2304x64000, .f32⟩
  | .local _ .vmem, ⟨7, _⟩ => ⟨S7680x64000, .fp8e4m3⟩
  | .local _ .vmem, ⟨8, _⟩ => ⟨S7680x500, .f32⟩
  | .local _ .vmem, ⟨9, _⟩ => ⟨S7680x2304, .bf16⟩
  | _, _ => ⟨S7680x64000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S7680x64000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7680x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304x64000 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x64000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7680x64000 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7680x500 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7680x2304 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Fwd.lean ====
abbrev S7680x2304 : Shape := ⟨2, ![7680, 2304]⟩
abbrev S2304 : Shape := ⟨1, ![2304]⟩
abbrev S7680 : Shape := ⟨1, ![7680]⟩
abbrev S2304x64000 : Shape := ⟨2, ![2304, 64000]⟩
abbrev S18x500 : Shape := ⟨2, ![18, 500]⟩
abbrev S7680x1 : Shape := ⟨2, ![7680, 1]⟩
abbrev S7680x128 : Shape := ⟨2, ![7680, 128]⟩
abbrev S18x500x128 : Shape := ⟨3, ![18, 500, 128]⟩
abbrev S18x64000 : Shape := ⟨2, ![18, 64000]⟩
abbrev S1x2304 : Shape := ⟨2, ![1, 2304]⟩
abbrev S7680x18 : Shape := ⟨2, ![7680, 18]⟩
abbrev S7680x64000 : Shape := ⟨2, ![7680, 64000]⟩
abbrev S1280x2304 : Shape := ⟨2, ![1280, 2304]⟩
abbrev S1280x128 : Shape := ⟨2, ![1280, 128]⟩
abbrev S2304x1280 : Shape := ⟨2, ![2304, 1280]⟩
abbrev S18x1280 : Shape := ⟨2, ![18, 1280]⟩
abbrev S1280x18 : Shape := ⟨2, ![1280, 18]⟩
abbrev S1280x1280 : Shape := ⟨2, ![1280, 1280]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S32x18 : Shape := ⟨2, ![32, 18]⟩
abbrev S1x1280 : Shape := ⟨2, ![1, 1280]⟩
abbrev S128x1280 : Shape := ⟨2, ![128, 1280]⟩
abbrev S256x2304 : Shape := ⟨2, ![256, 2304]⟩
abbrev S256x1280 : Shape := ⟨2, ![256, 1280]⟩
abbrev S256x128 : Shape := ⟨2, ![256, 128]⟩
abbrev S1280 : Shape := ⟨1, ![1280]⟩
abbrev S1280x1 : Shape := ⟨2, ![1280, 1]⟩

abbrev nBuf : Space → Nat
  | .hbm => 15
  | .vmem => 24
  | .smem => 0
  | _ => 0

abbrev bufTy : (tb : Table) → Fin (tcTables nBuf tb) → BufTy
  | .hbm, ⟨0, _⟩ => ⟨S7680x2304, .bf16⟩
  | .hbm, ⟨1, _⟩ => ⟨S2304, .f32⟩
  | .hbm, ⟨2, _⟩ => ⟨S7680, .i32⟩
  | .hbm, ⟨3, _⟩ => ⟨S2304x64000, .fp8e4m3⟩
  | .hbm, ⟨4, _⟩ => ⟨S18x500, .f32⟩
  | .hbm, ⟨5, _⟩ => ⟨S7680x1, .i32⟩
  | .hbm, ⟨6, _⟩ => ⟨S7680x128, .i32⟩
  | .hbm, ⟨7, _⟩ => ⟨S18x500x128, .f32⟩
  | .hbm, ⟨8, _⟩ => ⟨S18x64000, .f32⟩
  | .hbm, ⟨9, _⟩ => ⟨S1x2304, .f32⟩
  | .hbm, ⟨10, _⟩ => ⟨S7680x2304, .fp8e4m3⟩
  | .hbm, ⟨11, _⟩ => ⟨S7680x18, .f32⟩
  | .hbm, ⟨12, _⟩ => ⟨S7680x64000, .f32⟩
  | .hbm, ⟨13, _⟩ => ⟨S7680x128, .f32⟩
  | .hbm, ⟨14, _⟩ => ⟨S7680x128, .f32⟩
  | .local _ .vmem, ⟨0, _⟩ => ⟨S1280x2304, .bf16⟩
  | .local _ .vmem, ⟨1, _⟩ => ⟨S1280x2304, .bf16⟩
  | .local _ .vmem, ⟨2, _⟩ => ⟨S1x2304, .f32⟩
  | .local _ .vmem, ⟨3, _⟩ => ⟨S1280x128, .i32⟩
  | .local _ .vmem, ⟨4, _⟩ => ⟨S1280x128, .i32⟩
  | .local _ .vmem, ⟨5, _⟩ => ⟨S2304x1280, .fp8e4m3⟩
  | .local _ .vmem, ⟨6, _⟩ => ⟨S2304x1280, .fp8e4m3⟩
  | .local _ .vmem, ⟨7, _⟩ => ⟨S18x1280, .f32⟩
  | .local _ .vmem, ⟨8, _⟩ => ⟨S18x1280, .f32⟩
  | .local _ .vmem, ⟨9, _⟩ => ⟨S1280x2304, .fp8e4m3⟩
  | .local _ .vmem, ⟨10, _⟩ => ⟨S1280x2304, .fp8e4m3⟩
  | .local _ .vmem, ⟨11, _⟩ => ⟨S1280x18, .f32⟩
  | .local _ .vmem, ⟨12, _⟩ => ⟨S1280x18, .f32⟩
  | .local _ .vmem, ⟨13, _⟩ => ⟨S1280x1280, .f32⟩
  | .local _ .vmem, ⟨14, _⟩ => ⟨S1280x1280, .f32⟩
  | .local _ .vmem, ⟨15, _⟩ => ⟨S1280x128, .f32⟩
  | .local _ .vmem, ⟨16, _⟩ => ⟨S1280x128, .f32⟩
  | .local _ .vmem, ⟨17, _⟩ => ⟨S1280x128, .f32⟩
  | .local _ .vmem, ⟨18, _⟩ => ⟨S1280x128, .f32⟩
  | .local _ .vmem, ⟨19, _⟩ => ⟨S1280x2304, .bf16⟩
  | .local _ .vmem, ⟨20, _⟩ => ⟨S2304x1280, .bf16⟩
  | .local _ .vmem, ⟨21, _⟩ => ⟨S1280x128, .f32⟩
  | .local _ .vmem, ⟨22, _⟩ => ⟨S1280x128, .f32⟩
  | .local _ .vmem, ⟨23, _⟩ => ⟨S1280x128, .f32⟩
  | _, _ => ⟨S7680x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![6, 50], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_383 : BitVec 32 := 0#32
  let c40_i32 : BitVec 32 := 40#32
  let v923 : BitVec 32 := Scalar.addi c0_i32_383 c40_i32
  let c1_i32 : BitVec 32 := 1#32
  ⟨c0_i32_383, v923, c1_i32⟩
def k0_mult1 (k0_t1 : Fin k0_t1_loop.trips) : BitVec 32 :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  v926
def k0_off1 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v928 : Index := Scalar.indexCast v927
  let c0_387 : Index := 0#32
  ![v928.toNat, 0]
def k0_off2 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v931 : Index := Scalar.indexCast v927
  let c128_388 : Index := 128#32
  ![v931.toNat, 128]
def k0_off3 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v934 : Index := Scalar.indexCast v927
  let c256_389 : Index := 256#32
  ![v934.toNat, 256]
def k0_off4 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v937 : Index := Scalar.indexCast v927
  let c384_390 : Index := 384#32
  ![v937.toNat, 384]
def k0_off5 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v940 : Index := Scalar.indexCast v927
  let c512_391 : Index := 512#32
  ![v940.toNat, 512]
def k0_off6 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v943 : Index := Scalar.indexCast v927
  let c640_392 : Index := 640#32
  ![v943.toNat, 640]
def k0_off7 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v946 : Index := Scalar.indexCast v927
  let c768_393 : Index := 768#32
  ![v946.toNat, 768]
def k0_off8 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v949 : Index := Scalar.indexCast v927
  let c896_394 : Index := 896#32
  ![v949.toNat, 896]
def k0_off9 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v952 : Index := Scalar.indexCast v927
  let c1024_395 : Index := 1024#32
  ![v952.toNat, 1024]
def k0_off10 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v955 : Index := Scalar.indexCast v927
  let c1152_396 : Index := 1152#32
  ![v955.toNat, 1152]
def k0_off11 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v958 : Index := Scalar.indexCast v927
  let c1280_397 : Index := 1280#32
  ![v958.toNat, 1280]
def k0_off12 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v961 : Index := Scalar.indexCast v927
  let c1408_398 : Index := 1408#32
  ![v961.toNat, 1408]
def k0_off13 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v964 : Index := Scalar.indexCast v927
  let c1536_399 : Index := 1536#32
  ![v964.toNat, 1536]
def k0_off14 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v967 : Index := Scalar.indexCast v927
  let c1664_400 : Index := 1664#32
  ![v967.toNat, 1664]
def k0_off15 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v970 : Index := Scalar.indexCast v927
  let c1792_401 : Index := 1792#32
  ![v970.toNat, 1792]
def k0_off16 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v973 : Index := Scalar.indexCast v927
  let c1920_402 : Index := 1920#32
  ![v973.toNat, 1920]
def k0_off17 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v976 : Index := Scalar.indexCast v927
  let c2048_403 : Index := 2048#32
  ![v976.toNat, 2048]
def k0_off18 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v979 : Index := Scalar.indexCast v927
  let c2176_404 : Index := 2176#32
  ![v979.toNat, 2176]
def k0_off19 (k0_t1 : Fin k0_t1_loop.trips) : Fin 2 → Nat :=
  let c0_i32_386 : BitVec 32 := 0#32
  let c0_i32_383 : BitVec 32 := 0#32
  let c1_i32 : BitVec 32 := 1#32
  let arg17 : BitVec 32 := Scf.iv c0_i32_383 c1_i32 k0_t1
  let c1_i32_385 : BitVec 32 := 1#32
  let v924 : BitVec 32 := Scalar.muli arg17 c1_i32_385
  let v925 : BitVec 32 := Scalar.addi c0_i32_386 v924
  let c32_i32 : BitVec 32 := 32#32
  let v926 : BitVec 32 := Scalar.muli v925 c32_i32
  let v927 : BitVec 32 := v926
  let v1965 : Index := Scalar.indexCast v927
  let c0_682 : Index := 0#32
  ![v1965.toNat, 0]
def k0_cond2 (i : grid0.Coords) : BitVec 1 :=
  let arg1 : BitVec 32 := BitVec.ofNat 32 (i 1).val
  let c49_i32 : BitVec 32 := 49#32
  let v908 : BitVec 1 := Scalar.cmpi .eq arg1 c49_i32
  let v909 : BitVec 32 := Scalar.extui v908
  let c0_i32_373 : BitVec 32 := 0#32
  let v910 : BitVec 1 := Scalar.cmpi .ne v909 c0_i32_373
  v910

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1280x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2304x1280 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S18x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1280x2304 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1280x18 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1280x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1280x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1280x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FwdIdeal.lean ====
variable {F : FTy → Type} [FloatOps F] [Named F]
def κ : String → Option EReal := fun
  | "inv_n" => some ((1 / 2304 : ℝ) : EReal)
  | "ln2" => some ((Real.log 2 : ℝ) : EReal)
  | _ => none
-- ==== FwdRefIdeal.lean ====
abbrev S7680x2304 : Shape := ⟨2, ![7680, 2304]⟩
abbrev S2304 : Shape := ⟨1, ![2304]⟩
abbrev S7680 : Shape := ⟨1, ![7680]⟩
abbrev S2304x64000 : Shape := ⟨2, ![2304, 64000]⟩
abbrev S18x500 : Shape := ⟨2, ![18, 500]⟩
abbrev S_ : Shape := ⟨0, ![]⟩
abbrev S7680x1 : Shape := ⟨2, ![7680, 1]⟩
abbrev S1x2304 : Shape := ⟨2, ![1, 2304]⟩
abbrev S18x1x500x1 : Shape := ⟨4, ![18, 1, 500, 1]⟩
abbrev S18x128x500x128 : Shape := ⟨4, ![18, 128, 500, 128]⟩
abbrev S7680x64000 : Shape := ⟨2, ![7680, 64000]⟩
abbrev S7680x18x128 : Shape := ⟨3, ![7680, 18, 128]⟩
abbrev S7680x18 : Shape := ⟨2, ![7680, 18]⟩
abbrev S7680x18x1 : Shape := ⟨3, ![7680, 18, 1]⟩

abbrev nBuf : Space → Nat
  | .hbm => 26
  | .vmem => 4
  | .smem => 0
  | _ => 0

abbrev bufTy : (tb : Table) → Fin (tcTables nBuf tb) → BufTy
  | .hbm, ⟨0, _⟩ => ⟨S7680x2304, .bf16⟩
  | .hbm, ⟨1, _⟩ => ⟨S2304, .f32⟩
  | .hbm, ⟨2, _⟩ => ⟨S7680, .i32⟩
  | .hbm, ⟨3, _⟩ => ⟨S2304x64000, .fp8e4m3⟩
  | .hbm, ⟨4, _⟩ => ⟨S18x500, .f32⟩
  | .hbm, ⟨5, _⟩ => ⟨S7680x2304, .f32⟩
  | .hbm, ⟨6, _⟩ => ⟨S7680x2304, .f32⟩
  | .hbm, ⟨7, _⟩ => ⟨S_, .f32⟩
  | .hbm, ⟨8, _⟩ => ⟨S7680, .f32⟩
  | .hbm, ⟨9, _⟩ => ⟨S7680x1, .f32⟩
  | .hbm, ⟨10, _⟩ => ⟨S_, .f32⟩
  | .hbm, ⟨11, _⟩ => ⟨S7680x1, .f32⟩
  | .hbm, ⟨12, _⟩ => ⟨S7680x1, .f32⟩
  | .hbm, ⟨13, _⟩ => ⟨S_, .f32⟩
  | .hbm, ⟨14, _⟩ => ⟨S7680x1, .f32⟩
  | .hbm, ⟨15, _⟩ => ⟨S7680x1, .f32⟩
  | .hbm, ⟨16, _⟩ => ⟨S7680x1, .f32⟩
  | .hbm, ⟨17, _⟩ => ⟨S7680x2304, .f32⟩
  | .hbm, ⟨18, _⟩ => ⟨S7680x2304, .f32⟩
  | .hbm, ⟨19, _⟩ => ⟨S1x2304, .f32⟩
  | .hbm, ⟨20, _⟩ => ⟨S7680x2304, .f32⟩
  | .hbm, ⟨21, _⟩ => ⟨S7680x2304, .f32⟩
  | .hbm, ⟨22, _⟩ => ⟨S18x1x500x1, .f32⟩
  | .hbm, ⟨23, _⟩ => ⟨S18x128x500x128, .f32⟩
  | .hbm, ⟨24, _⟩ => ⟨S2304x64000, .f32⟩
  | .hbm, ⟨25, _⟩ => ⟨S7680x64000, .f32⟩
  | .local _ .vmem, ⟨0, _⟩ => ⟨S7680x2304, .f32⟩
  | .local _ .vmem, ⟨1, _⟩ => ⟨S2304x64000, .fp8e4m3⟩
  | .local _ .vmem, ⟨2, _⟩ => ⟨S2304x64000, .f32⟩
  | .local _ .vmem, ⟨3, _⟩ => ⟨S7680x64000, .f32⟩
  | _, _ => ⟨S7680x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S7680x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x64000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x64000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7680x64000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Bwd.Runs.lean ====
/- The ideal kernel: what the step conditions of its body say, the memory a step owns, and its contents. -/
module

public import proofs.«01_k».proof.Proof.Gen.BwdIdeal.Launch
public import proofs.«01_k».proof.Proof.Gen.BwdIdeal.Skeleton
public import proofs.«01_k».proof.Proof.Gen.BwdIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_BwdIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 4 rfl).trans ((hA c 4).trans (V_main_arg5 m c)),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 50) — by arithmetic of the point. -/
theorem hcond0_0 : ∀ t : Fin cfg0.N, cond0_0 (grid0.coords t) ↔ t.val % 50 = 0 :=
  (fun t => by
    have ht : t.val < 500 := Nat.lt_of_lt_of_eq t.isLt N_0
    have e0 : (grid0.coords t 0).val = t.val / 50 % 10 := Pipeline.Grid.coords_val t 0 (by decide) rfl
    have e1 : (grid0.coords t 1).val = t.val / 1 % 50 := Pipeline.Grid.coords_val t 1 (by decide) rfl
    simp only [cond0_0, e0, e1]
    word_cmp
   : ∀ t : Fin grid0.N, cond0_0 (grid0.coords t) ↔ t.val % 50 = 0)

/-- The condition of the body's `scf.if` 1 (`k0_h2`), from the grid coordinates (the skeleton's scalar
    chain substituted). -/
abbrev cond0_1 (i : grid0.Coords) : Prop := k0_cond2 i = 1#1
/-- It holds at the points ≡ 49 (mod 50) — by arithmetic of the point. -/
theorem hcond0_1 : ∀ t : Fin cfg0.N, cond0_1 (grid0.coords t) ↔ t.val % 50 = 49 :=
  (fun t => by
    have ht : t.val < 500 := Nat.lt_of_lt_of_eq t.isLt N_0
    have e0 : (grid0.coords t 0).val = t.val / 50 % 10 := Pipeline.Grid.coords_val t 0 (by decide) rfl
    have e1 : (grid0.coords t 1).val = t.val / 1 % 50 := Pipeline.Grid.coords_val t 1 (by decide) rfl
    simp only [cond0_1, k0_cond2, e0, e1]
    word_cmp
   : ∀ t : Fin grid0.N, cond0_1 (grid0.coords t) ↔ t.val % 50 = 49)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The kernel body on any staging memrefs: a subtype the run finds -/

/-- One staging buffer of output window 6, through which its contents are stated (`View.read_writes_of_cover`: the
    choice does not matter). -/
abbrev VO0_6 : View sig .tc .vmem S768x1280 .fp8e4m3 := (Memref.whole cc0_stg6_0 : Memref sig .tc .vmem S768x1280 .fp8e4m3).view
/-- One staging buffer of output window 8, through which its contents are stated (`View.read_writes_of_cover`: the
    choice does not matter). -/
abbrev VO0_8 : View sig .tc .vmem S768x2304 .bf16 := (Memref.whole cc0_stg8_0 : Memref sig .tc .vmem S768x2304 .bf16).view
/-- Each window's current staging memref at point `t`, spelled as the pipeline passes it (`bodyAt0`), and its wholeness. -/
abbrev ms0_0 (t : Fin cfg0.N) : Memref sig .tc .vmem S768x1280 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2304x1280 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S18x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x1280 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x500 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x2304 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S768x1280 .bf16 := Memref.whole cc0_scratch0
abbrev scM0_1 : Memref sig .tc .vmem S2304x1280 .bf16 := Memref.whole cc0_scratch1
abbrev scM0_2 : Memref sig .tc .vmem S768x2304 .f32 := Memref.whole cc0_scratch2
abbrev scM0_3 : Memref sig .tc .vmem S3072x128 .f32 := Memref.whole cc0_scratch3
/-- The scratch `arg13` the kernel carries between points, as a view: what it holds is stated through it. -/
abbrev VS0_2 : View sig .tc .vmem S768x2304 .f32 := scM0_2.view

/-- The frame's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.BwdIdeal.Gen

end
-- ==== Proof.Bwd.RunA.lean ====
/- The ideal kernel's body, run at the first vocabulary step of a row tile. -/
module

public import proofs.«01_k».proof.Proof.Bwd.Runs

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2856000 in
/-- What the body's stores leave in each output's staging memref, as pieces (last first) IN CASE A (`scf.if` 0 taken, `scf.if` 1 not taken: points 0, 50, … 450: 10 of 500), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_A (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : cond0_0 i) (hc1 : ¬cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) :
    Σ' (L6 : List (View.Piece (Elt F) S768x1280 .fp8e4m3)), Σ' (L8 : List (View.Piece (Elt F) S768x2304 .bf16)), Σ' (LS2 : List (View.Piece (Elt F) S768x2304 .f32)), Σ' (LT0 : List (View.Piece (Elt F) S768x1280 .bf16)), { LT1 : List (View.Piece (Elt F) S2304x1280 .bf16) //
      ∀ (xi8 : Vec F S768x2304 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ owns (c : Thread nD τ) arg10 fullShare xi8 ∗ (∃ f, arg11.view.loc (c : Thread nD τ) ↦[arg11.view.set]{fullShare} arg11.view.writes (Elt F) f LT0) ∗ (∃ f, arg12.view.loc (c : Thread nD τ) ↦[arg12.view.set]{fullShare} arg12.view.writes (Elt F) f LT1) ∗ (∃ f, arg13.view.loc (c : Thread nD τ) ↦[arg13.view.set]{fullShare} arg13.view.writes (Elt F) f LS2) ∗ (∃ d, owns (c : Thread nD τ) arg14 fullShare d)) -∗ K ⟨⟩))
          ⊢ wp frame (wpE (defs₀ (F := F)) Variants.none c none) E (cc0_head_bwd i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, ?_, fun xi8 E K => ?run⟩
  case run =>
    simp only [cc0_head_bwd_eq_skeleton]; unfold cc0_head_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    isplitl [H8]
    · iexists _; isplitr; · ipureintro; exact harg10.read_unread _
      iexact H8
    isplitl [HS0]; · iexists _; iexact HS0
    isplitl [HS1]; · iexists _; iexact HS1
    isplitl [HS2]; · iexists _; iexact HS2
    iexists _, _; isplitr; swap; · iexact HS3
    ipureintro; rfl

end Cert.BwdIdeal.Gen

end
-- ==== Proof.Bwd.RunB.lean ====
/- The ideal kernel's body, run at a middle vocabulary step of a row tile. -/
module

public import proofs.«01_k».proof.Proof.Bwd.RunA

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2844000 in
/-- What the body's stores leave in each output's staging memref, as pieces (last first) IN CASE B (`scf.if` 0 not taken, `scf.if` 1 not taken: points 1, 2, … 498: 480 of 500), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_B (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : ¬cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) :
    Σ' (L6 : List (View.Piece (Elt F) S768x1280 .fp8e4m3)), Σ' (L8 : List (View.Piece (Elt F) S768x2304 .bf16)), Σ' (LS2 : List (View.Piece (Elt F) S768x2304 .f32)), Σ' (LT0 : List (View.Piece (Elt F) S768x1280 .bf16)), { LT1 : List (View.Piece (Elt F) S2304x1280 .bf16) //
      ∀ (xi8 : Vec F S768x2304 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xi8 ∗ (∃ d, owns (c : Thread nD τ) arg11 fullShare d) ∗ (∃ d, owns (c : Thread nD τ) arg12 fullShare d) ∗ owns (c : Thread nD τ) arg13 fullShare xs2 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ owns (c : Thread nD τ) arg10 fullShare xi8 ∗ (∃ f, arg11.view.loc (c : Thread nD τ) ↦[arg11.view.set]{fullShare} arg11.view.writes (Elt F) f LT0) ∗ (∃ f, arg12.view.loc (c : Thread nD τ) ↦[arg12.view.set]{fullShare} arg12.view.writes (Elt F) f LT1) ∗ (∃ f, arg13.view.loc (c : Thread nD τ) ↦[arg13.view.set]{fullShare} arg13.view.writes (Elt F) f LS2) ∗ (∃ d, owns (c : Thread nD τ) arg14 fullShare d)) -∗ K ⟨⟩))
          ⊢ wp frame (wpE (defs₀ (F := F)) Variants.none c none) E (cc0_head_bwd i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, ?_, fun xi8 E K => ?run⟩
  case run =>
    simp only [cc0_head_bwd_eq_skeleton]; unfold cc0_head_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, ⟨%ds1, %fs1, -, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg13.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    isplitl [H8]
    · iexists _; isplitr; · ipureintro; exact harg10.read_unread _
      iexact H8
    isplitl [HS0]; · iexists _; iexact HS0
    isplitl [HS1]; · iexists _; iexact HS1
    isplitl [HS2]; · iexists _; iexact HS2
    iexists _, _; isplitr; swap; · iexact HS3
    ipureintro; rfl

end Cert.BwdIdeal.Gen

end
-- ==== Proof.Bwd.RunC.lean ====
/- The ideal kernel's body, run at the last vocabulary step of a row tile. -/
module

public import proofs.«01_k».proof.Proof.Bwd.RunB

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2904000 in
/-- What the body's stores leave in each output's staging memref, as pieces (last first) IN CASE C (`scf.if` 0 not taken, `scf.if` 1 taken: points 49, 99, … 499: 10 of 500), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_C (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) :
    Σ' (L6 : List (View.Piece (Elt F) S768x1280 .fp8e4m3)), Σ' (L8 : List (View.Piece (Elt F) S768x2304 .bf16)), Σ' (LS2 : List (View.Piece (Elt F) S768x2304 .f32)), Σ' (LT0 : List (View.Piece (Elt F) S768x1280 .bf16)), { LT1 : List (View.Piece (Elt F) S2304x1280 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs2 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LT0) ∗ (∃ f, arg12.view.loc (c : Thread nD τ) ↦[arg12.view.set]{fullShare} arg12.view.writes (Elt F) f LT1) ∗ (∃ f, arg13.view.loc (c : Thread nD τ) ↦[arg13.view.set]{fullShare} arg13.view.writes (Elt F) f LS2) ∗ (∃ d, owns (c : Thread nD τ) arg14 fullShare d)) -∗ K ⟨⟩))
          ⊢ wp frame (wpE (defs₀ (F := F)) Variants.none c none) E (cc0_head_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_head_bwd_eq_skeleton]; unfold cc0_head_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg13.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    isplitl [H8]; · iexists _; iexact H8
    isplitl [HS0]; · iexists _; iexact HS0
    isplitl [HS1]; · iexists _; iexact HS1
    isplitl [HS2]; · iexists _; iexact HS2
    iexists _, _; isplitr; swap; · iexact HS3
    ipureintro; rfl

end Cert.BwdIdeal.Gen

end
-- ==== Proof.Bwd.Frame.lean ====
/- The ideal kernel's frame, and the contents of every window and scratch buffer after each grid step. -/
module

public import proofs.«01_k».proof.Proof.Bwd.RunC
public import Idealize.ShloMosaic.Lib.Claim

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 6 tile its block (30 stores of `S256x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : cond0_0 i) (hc1 : ¬cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (y : S768x1280.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).1 S256x128.size (by sl_kernel_rfl) y

/-- What case A leaves in output 6's staging buffer: its pieces read back over junk. -/
def out0_A_6 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : cond0_0 i) (hc1 : ¬cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) : Vec F S768x1280 .fp8e4m3 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).1)

/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : cond0_0 i) (hc1 : ¬cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) : Vec F S768x2304 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.1)

/-- Case A's pieces for scratch `arg13`, which the kernel carries between points, cover it: one of them a store of the WHOLE buffer (Lib/Ring.lean `sl_whole_mem`). -/
theorem scover0_A_2 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : cond0_0 i) (hc1 : ¬cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (y : S768x2304.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.1 (by sl_whole_mem) y

/-- What case A leaves in scratch `arg13`: its pieces read back over junk. -/
def sout0_A_2 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : cond0_0 i) (hc1 : ¬cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) : Vec F S768x2304 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.1)

/-- Case B's pieces for output 6 tile its block (30 stores of `S256x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : ¬cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) (y : S768x1280.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).1 S256x128.size (by sl_kernel_rfl) y

/-- What case B leaves in output 6's staging buffer: its pieces read back over junk. -/
def out0_B_6 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : ¬cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) : Vec F S768x1280 .fp8e4m3 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : ¬cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) : Vec F S768x2304 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).2.1)

/-- Case B's pieces for scratch `arg13`, which the kernel carries between points, cover it: 3 pieces of `S256x2304` tiling it (Lib/Ring.lean `Piece.tiledL`). -/
theorem scover0_B_2 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : ¬cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) (y : S768x2304.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).2.2.1 S256x2304.size (by sl_kernel_rfl) y

/-- What case B leaves in scratch `arg13`: its pieces read back over junk. -/
def sout0_B_2 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : ¬cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) : Vec F S768x2304 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).2.2.1)

/-- Case C's pieces for output 6 tile its block (30 stores of `S256x128`, checked by the kernel's evaluation: Lib/Ring.lean `Piece.tiledL`, linear in the pieces, through a loop's `@[irreducible]` trip theorem too), so they cover it. -/
theorem cover0_C_6 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) (y : S768x1280.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).1 S256x128.size (by sl_kernel_rfl) y

/-- What case C leaves in output 6's staging buffer: its pieces read back over junk. -/
def out0_C_6 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) : Vec F S768x1280 .fp8e4m3 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).1)

/-- Case C's pieces for output 8 tile its block (1 store of `S768x2304`, checked by the kernel's evaluation: Lib/Ring.lean `Piece.tiledL`, linear in the pieces, through a loop's `@[irreducible]` trip theorem too), so they cover it. -/
theorem cover0_C_8 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) (y : S768x2304.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).2.1 S768x2304.size (by sl_kernel_rfl) y

/-- What case C leaves in output 8's staging buffer: its pieces read back over junk. -/
def out0_C_8 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) : Vec F S768x2304 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).2.1)

/-- Case C's pieces for scratch `arg13`, which the kernel carries between points, cover it: 3 pieces of `S256x2304` tiling it (Lib/Ring.lean `Piece.tiledL`). -/
theorem scover0_C_2 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) (y : S768x2304.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).2.2.1 S256x2304.size (by sl_kernel_rfl) y

/-- What case C leaves in scratch `arg13`: its pieces read back over junk. -/
def sout0_C_2 (c : Dev nD) (i : grid0.Coords) (arg2 : Memref sig .tc .vmem S768x1280 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x128 .i32) (harg5 : arg5.IsWhole) (arg6 : Memref sig .tc .vmem S2304x1280 .fp8e4m3) (harg6 : arg6.IsWhole) (arg7 : Memref sig .tc .vmem S18x1280 .f32) (harg7 : arg7.IsWhole) (arg8 : Memref sig .tc .vmem S768x1280 .fp8e4m3) (harg8 : arg8.IsWhole) (arg9 : Memref sig .tc .vmem S768x500 .f32) (harg9 : arg9.IsWhole) (arg10 : Memref sig .tc .vmem S768x2304 .bf16) (harg10 : arg10.IsWhole) (arg11 : Memref sig .tc .vmem S768x1280 .bf16) (harg11 : arg11.IsWhole) (arg12 : Memref sig .tc .vmem S2304x1280 .bf16) (harg12 : arg12.IsWhole) (arg13 : Memref sig .tc .vmem S768x2304 .f32) (harg13 : arg13.IsWhole) (arg14 : Memref sig .tc .vmem S3072x128 .f32) (harg14 : arg14.IsWhole) (hc0 : ¬cond0_0 i) (hc1 : cond0_1 i)
    (x0 : Vec F S768x1280 .f32) (x1 : Vec F S768x128 .f32) (x2 : Vec F S768x128 .f32) (x3 : Vec F S768x128 .i32) (x4 : Vec F S2304x1280 .fp8e4m3) (x5 : Vec F S18x1280 .f32) (xs2 : Vec F S768x2304 .f32) : Vec F S768x2304 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs2).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S768x1280 .fp8e4m3 × Vec F S768x2304 .bf16 × Vec F S768x2304 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 50 = 0 then
      if h1 : (n + 1) % 50 = 49 then
        False.elim (by have hN : n + 1 < 500 := lt_of_lt_of_eq hn (show cfg0.N = 500 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 50 = 49 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)

/-- `outsAt0` at a point of case A: that case's contents. -/
theorem outsAt0_A (c : Dev nD) (t : Fin cfg0.N) (h0 : t.val % 50 = 0) (h1 : ¬t.val % 50 = 49) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 50 = 0) (h1 : ¬t.val % 50 = 49) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 50 = 0) (h1 : t.val % 50 = 49) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn).2.2) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn).2.2) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)).2.2) ∗ (∃ d, owns (c : Thread nD τ) scM0_3 fullShare d)) ∗ (∃ r, prngReg c r)) := by
  cases n with
  | zero => exact absurd rfl hz
  | succ n => rfl

/-! ## The pipeline's proof data -/

/-- The output windows this certificate FORGETS (7): nothing reads what the kernel leaves in them, so nothing
    of it is named (Lib/Pipeline/Dat.lean `Dat.toRForget`). -/
def forgets0 : Fin 9 → Bool := fun w => w.val == 7
theorem forgets0_6 : forgets0 (6 : Fin 9) = false := by decide
theorem forgets0_8 : forgets0 (8 : Fin 9) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, h⟩ => Pipeline.Dat.unnamed (cfg := cfg0) ⟨7, h⟩ t
    | ⟨8, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_8 (c : Dev nD) (t : Fin cfg0.N) : (dats m 0 c).after 8 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (dats m 0 c).leavesExact 8 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 500 := lt_of_lt_of_eq t.isLt (show cfg0.N = 500 from N_0)
  by_cases h0 : t.val % 50 = 0
  · by_cases h1 : t.val % 50 = 49
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_6 sout0_A_2; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexact H8
        isplitl [HS0]; · iexact HS0
        isplitl [HS1]; · iexact HS1
        isplitl [HS2]; · iexact HS2
        isplitl [HS3]; · iexact HS3
        iintro ⟨H0, H1, H2, H3, H4, H5, ⟨%e6, H6⟩, H7, H8, ⟨%fT0, HS0⟩, ⟨%fT1, HS1⟩, ⟨%es2, HS2⟩, HS3⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _)
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _)
        isplitl [H7]; · iexact H7
        iexists _; iexact H8
      · rw [PhiS_castSucc m c t, PhiS_pos m c _ _ hz]
        rw [outsAt0_A m c t h0 h1]
        unfold out0_A_6 sout0_A_2; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexact H8
        isplitl [HS0]; · iexact HS0
        isplitl [HS1]; · iexact HS1
        isplitl [HS2]; · iexists _; iexact HS2
        isplitl [HS3]; · iexact HS3
        iintro ⟨H0, H1, H2, H3, H4, H5, ⟨%e6, H6⟩, H7, H8, ⟨%fT0, HS0⟩, ⟨%fT1, HS1⟩, ⟨%es2, HS2⟩, HS3⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _)
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _)
        isplitl [H7]; · iexact H7
        iexists _; iexact H8
  · by_cases h1 : t.val % 50 = 49
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      by_cases hz : t.val = 0
      · exfalso; have hN : t.val < 500 := lt_of_lt_of_eq t.isLt (show cfg0.N = 500 from N_0); omega
      · rw [PhiS_castSucc m c t, PhiS_pos m c _ _ hz]
        rw [outsAt0_C m c t h0 h1]
        unfold out0_C_6 out0_C_8 sout0_C_2; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        isplitl [HS2]; · iexact HS2
        isplitl [HS3]; · iexact HS3
        iintro ⟨H0, H1, H2, H3, H4, H5, ⟨%e6, H6⟩, H7, ⟨%e8, H8⟩, ⟨%fT0, HS0⟩, ⟨%fT1, HS1⟩, ⟨%es2, HS2⟩, HS3⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _)
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _ _)
        isplitl [H7]; · iexact H7
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      by_cases hz : t.val = 0
      · exfalso; have hN : t.val < 500 := lt_of_lt_of_eq t.isLt (show cfg0.N = 500 from N_0); omega
      · rw [PhiS_castSucc m c t, PhiS_pos m c _ _ hz]
        rw [outsAt0_B m c t h0 h1]
        unfold out0_B_6 sout0_B_2; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexact H8
        isplitl [HS0]; · iexact HS0
        isplitl [HS1]; · iexact HS1
        isplitl [HS2]; · iexact HS2
        isplitl [HS3]; · iexact HS3
        iintro ⟨H0, H1, H2, H3, H4, H5, ⟨%e6, H6⟩, H7, H8, ⟨%fT0, HS0⟩, ⟨%fT1, HS1⟩, ⟨%es2, HS2⟩, HS3⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _)
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _)
        isplitl [H7]; · iexact H7
        iexists _; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 500 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: the run ends without fault, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.BwdIdeal.Gen

end
-- ==== Proof.Bwd.Plain.lean ====
/- The kernel's frame from the idealised kernel's: the two differ only in that some constants are named, so with each named
   constant taken for the value of its bits they are one program. -/
module

public import proofs.«01_k».proof.Proof.Gen.Bwd
public import proofs.«01_k».proof.Proof.Bwd.Frame

@[expose] public section

noncomputable section

namespace Cert.Bwd.Gen

open Idealize.ShloMosaic Idealize.ShloMosaic.TcCoe Idealize.SL.Sem

variable {F : FTy → Type} [FloatOps F]

/-- The reading of named constants in which each is the value of its bits. -/
abbrev plain : Named F := ⟨fun _ _ φ b => Scalar.ofBits φ b⟩

/-- With it the two body tables are the same. -/
theorem defs₀_eq : @Cert.BwdIdeal.defs₀ F _ plain _ = @Cert.Bwd.defs₀ F _ _ := by
  unfold Cert.BwdIdeal.defs₀ Cert.Bwd.defs₀
  refine congrArg (Defs.onTc (τ := τ)) ?_
  funext l a
  match l, a with
  | 0, (t, s) => rfl

variable (m : (ℓ : Loc nD τ sig) → Buf (Elt F) ℓ) (ρ : Dev nD → PrngReg)

/-- The kernel ends without fault and leaves its arguments as they were. -/
theorem frame : θ_run (Cert.Bwd.defs (F := F)) (onTc (τ := τ) (Cert.Bwd.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have h := congrArg (Pipeline.defs Cert.Bwd.pcfgs) (defs₀_eq (F := F))
  unfold Cert.Bwd.defs
  rw [← h]
  exact @Cert.BwdIdeal.Gen.frame F _ plain m ρ

end Cert.Bwd.Gen

end
-- ==== Proof.Fwd.Runs.lean ====
module

public import proofs.«01_k».proof.Proof.Gen.FwdIdeal.Launch
public import proofs.«01_k».proof.Proof.Gen.FwdIdeal.Skeleton
public import proofs.«01_k».proof.Proof.Gen.FwdIdeal.Loops
public import proofs.«01_k».proof.Proof.Gen.FwdIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_FwdIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 50) — by arithmetic of the point. -/
theorem hcond0_0 : ∀ t : Fin cfg0.N, cond0_0 (grid0.coords t) ↔ t.val % 50 = 0 :=
  (fun t => by
    have ht : t.val < 300 := Nat.lt_of_lt_of_eq t.isLt N_0
    have e0 : (grid0.coords t 0).val = t.val / 50 % 6 := Pipeline.Grid.coords_val t 0 (by decide) rfl
    have e1 : (grid0.coords t 1).val = t.val / 1 % 50 := Pipeline.Grid.coords_val t 1 (by decide) rfl
    simp only [cond0_0, k0_cond1, e0, e1]
    word_cmp
   : ∀ t : Fin grid0.N, cond0_0 (grid0.coords t) ↔ t.val % 50 = 0)

/-- The condition of the body's `scf.if` 1 (`k0_h2`), from the grid coordinates (the skeleton's scalar
    chain substituted). -/
abbrev cond0_1 (i : grid0.Coords) : Prop := k0_cond2 i = 1#1
/-- It holds at the points ≡ 49 (mod 50) — by arithmetic of the point. -/
theorem hcond0_1 : ∀ t : Fin cfg0.N, cond0_1 (grid0.coords t) ↔ t.val % 50 = 49 :=
  (fun t => by
    have ht : t.val < 300 := Nat.lt_of_lt_of_eq t.isLt N_0
    have e0 : (grid0.coords t 0).val = t.val / 50 % 6 := Pipeline.Grid.coords_val t 0 (by decide) rfl
    have e1 : (grid0.coords t 1).val = t.val / 1 % 50 := Pipeline.Grid.coords_val t 1 (by decide) rfl
    simp only [cond0_1, k0_cond2, e0, e1]
    word_cmp
   : ∀ t : Fin grid0.N, cond0_1 (grid0.coords t) ↔ t.val % 50 = 49)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 7 is never idle (an output stored at every point, under no condition). -/
theorem liveAt0_7 : ∀ t : Fin cfg0.N, cfg0.idle 7 (grid0.coords t) = false := fun _ => rfl
/-! ## The kernel body on any staging memrefs: a subtype the run finds -/

/-- One staging buffer of output window 7, through which its contents are stated (`View.read_writes_of_cover`: the
    choice does not matter). -/
abbrev VO0_7 : View sig .tc .vmem S1280x1280 .f32 := (Memref.whole cc0_stg7_0 : Memref sig .tc .vmem S1280x1280 .f32).view
/-- Each window's current staging memref at point `t`, spelled as the pipeline passes it (`bodyAt0`), and its wholeness. -/
abbrev ms0_0 (t : Fin cfg0.N) : Memref sig .tc .vmem S1280x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2304 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2304x1280 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S18x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x2304 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x18 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x1280 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1280x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1280x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1280x2304 .bf16 := Memref.whole cc0_scratch0
abbrev scM0_1 : Memref sig .tc .vmem S2304x1280 .bf16 := Memref.whole cc0_scratch1
abbrev scM0_2 : Memref sig .tc .vmem S1280x128 .f32 := Memref.whole cc0_scratch2
abbrev scM0_3 : Memref sig .tc .vmem S1280x128 .f32 := Memref.whole cc0_scratch3
abbrev scM0_4 : Memref sig .tc .vmem S1280x128 .f32 := Memref.whole cc0_scratch4
/-- The scratch `arg12` the kernel carries between points, as a view: what it holds is stated through it. -/
abbrev VS0_0 : View sig .tc .vmem S1280x2304 .bf16 := scM0_0.view
/-- The scratch `arg14` the kernel carries between points, as a view: what it holds is stated through it. -/
abbrev VS0_2 : View sig .tc .vmem S1280x128 .f32 := scM0_2.view
/-- The scratch `arg15` the kernel carries between points, as a view: what it holds is stated through it. -/
abbrev VS0_3 : View sig .tc .vmem S1280x128 .f32 := scM0_3.view
/-- The scratch `arg16` the kernel carries between points, as a view: what it holds is stated through it. -/
abbrev VS0_4 : View sig .tc .vmem S1280x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.FwdIdeal.Gen

end
-- ==== Proof.Fwd.RunA.lean ====
module

public import proofs.«01_k».proof.Proof.Fwd.Runs

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1348000 in
/-- What the body's stores leave in each output's staging memref, as pieces (last first) IN CASE A (`scf.if` 0 taken, `scf.if` 1 not taken: points 0, 50, 100, 150, 200, 250), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 8, 9) at anything, handed back at some contents nothing names. -/
noncomputable def kernelRun0_A (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) :
    Σ' (L7 : List (View.Piece (Elt F) S1280x1280 .f32)), Σ' (LS0 : List (View.Piece (Elt F) S1280x2304 .bf16)), Σ' (LS2 : List (View.Piece (Elt F) S1280x128 .f32)), Σ' (LS3 : List (View.Piece (Elt F) S1280x128 .f32)), Σ' (LS4 : List (View.Piece (Elt F) S1280x128 .f32)), { LT1 : List (View.Piece (Elt F) S2304x1280 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4)) -∗ K ⟨⟩))
          ⊢ wp frame (wpE (defs₀ (F := F)) Variants.none c none) E (cc0_head_fwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_head_fwd_eq_skeleton]; unfold cc0_head_fwd_skel
    simp only [k0_part46_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    have hrd0 : ∀ (𝒱 : Variants) (c : Dev nD) (bd : Option 𝒱.V) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (k0_h1 : k0_cond1 i = 1#1) (X_arg2 : BufTy.Contents (Elt F) arg2.view.ty) (X_arg3 : BufTy.Contents (Elt F) arg3.view.ty) (hrdF : BufTy.Contents (Elt F) arg12.view.ty) (hrdB : LoadRect S1280x2304), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg2 X_arg3 (Scf.trips k0_t1_loop.lb k0_t1_loop.ub k0_t1_loop.st)).2.2) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg2 X_arg3 (Scf.trips k0_t1_loop.lb k0_t1_loop.ub k0_t1_loop.st)).2.2 hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg2 X_arg3 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg2 X_arg3 (Scf.trips k0_t1_loop.lb k0_t1_loop.ub k0_t1_loop.st)).2.2 S32x128.size (by sl_kernel_rfl) (hrdB.idx hrdJ))
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]; · iexists _; iexact H7
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.FwdIdeal.Gen

end
-- ==== Proof.Fwd.RunB.lean ====
module

public import proofs.«01_k».proof.Proof.Fwd.RunA

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, … 298: 288 of 300), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 8, 9) at anything, handed back at some contents nothing names. -/
noncomputable def kernelRun0_B (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) :
    Σ' (L7 : List (View.Piece (Elt F) S1280x1280 .f32)), Σ' (LS0 : List (View.Piece (Elt F) S1280x2304 .bf16)), Σ' (LS2 : List (View.Piece (Elt F) S1280x128 .f32)), Σ' (LS3 : List (View.Piece (Elt F) S1280x128 .f32)), Σ' (LS4 : List (View.Piece (Elt F) S1280x128 .f32)), { LT1 : List (View.Piece (Elt F) S2304x1280 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ owns (c : Thread nD τ) arg14 fullShare xs2 ∗ owns (c : Thread nD τ) arg15 fullShare xs3 ∗ owns (c : Thread nD τ) arg16 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ owns (c : Thread nD τ) arg12 fullShare xs0 ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4)) -∗ K ⟨⟩))
          ⊢ wp frame (wpE (defs₀ (F := F)) Variants.none c none) E (cc0_head_fwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], ?_, ?_, ?_, ?_, fun E K => ?run⟩
  case run =>
    simp only [cc0_head_fwd_eq_skeleton]; unfold cc0_head_fwd_skel
    simp only [k0_part46_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%ds1, %fs1, -, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hfs0; obtain rfl := harg14.eq_unread hfs2; obtain rfl := harg15.eq_unread hfs3; obtain rfl := harg16.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]; · iexists _; iexact H7
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg12.read_unread _
      iexact HS0
    isplitl [HS1]; · iexists _; iexact HS1
    isplitl [HS2]; · iexists _; iexact HS2
    isplitl [HS3]; · iexists _; iexact HS3
    iexists _; iexact HS4

end Cert.FwdIdeal.Gen

end
-- ==== Proof.Fwd.RunC.lean ====
module

public import proofs.«01_k».proof.Proof.Fwd.RunB

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 49, 99, 149, 199, 249, 299), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 8, 9) at anything, handed back at some contents nothing names. -/
noncomputable def kernelRun0_C (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) :
    Σ' (L7 : List (View.Piece (Elt F) S1280x1280 .f32)), Σ' (LS0 : List (View.Piece (Elt F) S1280x2304 .bf16)), Σ' (LS2 : List (View.Piece (Elt F) S1280x128 .f32)), Σ' (LS3 : List (View.Piece (Elt F) S1280x128 .f32)), Σ' (LS4 : List (View.Piece (Elt F) S1280x128 .f32)), { LT1 : List (View.Piece (Elt F) S2304x1280 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ owns (c : Thread nD τ) arg14 fullShare xs2 ∗ owns (c : Thread nD τ) arg15 fullShare xs3 ∗ owns (c : Thread nD τ) arg16 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ owns (c : Thread nD τ) arg12 fullShare xs0 ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4)) -∗ K ⟨⟩))
          ⊢ wp frame (wpE (defs₀ (F := F)) Variants.none c none) E (cc0_head_fwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], ?_, ?_, ?_, ?_, fun E K => ?run⟩
  case run =>
    simp only [cc0_head_fwd_eq_skeleton]; unfold cc0_head_fwd_skel
    simp only [k0_part46_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%ds1, %fs1, -, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hfs0; obtain rfl := harg14.eq_unread hfs2; obtain rfl := harg15.eq_unread hfs3; obtain rfl := harg16.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]; · iexists _; iexact H7
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg12.read_unread _
      iexact HS0
    isplitl [HS1]; · iexists _; iexact HS1
    isplitl [HS2]; · iexists _; iexact HS2
    isplitl [HS3]; · iexists _; iexact HS3
    iexists _; iexact HS4

end Cert.FwdIdeal.Gen

end
-- ==== Proof.Fwd.Frame.lean ====
module

public import proofs.«01_k».proof.Proof.Fwd.RunC
public import Idealize.ShloMosaic.Lib.Claim

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 7 tile its block (5 stores of `S256x1280`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (y : S1280x1280.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).1 S256x1280.size (by sl_kernel_rfl) y

/-- What case A leaves in output 7's staging buffer: its pieces read back over junk. -/
def out0_A_7 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) : Vec F S1280x1280 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).1)

/-- Case A's pieces for scratch `arg12`, which the kernel carries between points, cover it: 720 pieces of `S32x128` tiling it (Lib/Ring.lean `Piece.tiledL`). -/
theorem scover0_A_0 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (y : S1280x2304.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.1 S32x128.size (by sl_kernel_rfl) y

/-- What case A leaves in scratch `arg12`: its pieces read back over junk. -/
def sout0_A_0 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) : Vec F S1280x2304 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.1)

/-- Case A's pieces for scratch `arg14`, which the kernel carries between points, cover it: one of them a store of the WHOLE buffer (Lib/Ring.lean `sl_whole_mem`). -/
theorem scover0_A_2 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (y : S1280x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.1 (by sl_whole_mem) y

/-- What case A leaves in scratch `arg14`: its pieces read back over junk. -/
def sout0_A_2 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) : Vec F S1280x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.1)

/-- Case A's pieces for scratch `arg15`, which the kernel carries between points, cover it: one of them a store of the WHOLE buffer (Lib/Ring.lean `sl_whole_mem`). -/
theorem scover0_A_3 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (y : S1280x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.1 (by sl_whole_mem) y

/-- What case A leaves in scratch `arg15`: its pieces read back over junk. -/
def sout0_A_3 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) : Vec F S1280x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.1)

/-- Case A's pieces for scratch `arg16`, which the kernel carries between points, cover it: one of them a store of the WHOLE buffer (Lib/Ring.lean `sl_whole_mem`). -/
theorem scover0_A_4 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (y : S1280x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.1 (by sl_whole_mem) y

/-- What case A leaves in scratch `arg16`: its pieces read back over junk. -/
def sout0_A_4 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) : Vec F S1280x128 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.1)

/-- Case B's pieces for output 7 tile its block (5 stores of `S256x1280`, checked by the kernel's evaluation: Lib/Ring.lean `Piece.tiledL`, linear in the pieces, through a loop's `@[irreducible]` trip theorem too), so they cover it. -/
theorem cover0_B_7 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) (y : S1280x1280.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).1 S256x1280.size (by sl_kernel_rfl) y

/-- What case B leaves in output 7's staging buffer: its pieces read back over junk. -/
def out0_B_7 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) : Vec F S1280x1280 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).1)

/-- Case B stores nothing into scratch `arg12`: it holds what the point before left. -/
def sout0_B_0 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) : Vec F S1280x2304 .bf16 := xs0

/-- Case B's pieces for scratch `arg14`, which the kernel carries between points, cover it: 5 pieces of `S256x128` tiling it (Lib/Ring.lean `Piece.tiledL`). -/
theorem scover0_B_2 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) (y : S1280x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.1 S256x128.size (by sl_kernel_rfl) y

/-- What case B leaves in scratch `arg14`: its pieces read back over junk. -/
def sout0_B_2 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) : Vec F S1280x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.1)

/-- Case B's pieces for scratch `arg15`, which the kernel carries between points, cover it: 5 pieces of `S256x128` tiling it (Lib/Ring.lean `Piece.tiledL`). -/
theorem scover0_B_3 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) (y : S1280x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.2.1 S256x128.size (by sl_kernel_rfl) y

/-- What case B leaves in scratch `arg15`: its pieces read back over junk. -/
def sout0_B_3 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) : Vec F S1280x128 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.2.1)

/-- Case B's pieces for scratch `arg16`, which the kernel carries between points, cover it: 5 pieces of `S256x128` tiling it (Lib/Ring.lean `Piece.tiledL`). -/
theorem scover0_B_4 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) (y : S1280x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.2.2.1 S256x128.size (by sl_kernel_rfl) y

/-- What case B leaves in scratch `arg16`: its pieces read back over junk. -/
def sout0_B_4 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : ¬cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) : Vec F S1280x128 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.2.2.1)

/-- Case C's pieces for output 7 tile its block (5 stores of `S256x1280`, checked by the kernel's evaluation: Lib/Ring.lean `Piece.tiledL`, linear in the pieces, through a loop's `@[irreducible]` trip theorem too), so they cover it. -/
theorem cover0_C_7 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) (y : S1280x1280.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).1 S256x1280.size (by sl_kernel_rfl) y

/-- What case C leaves in output 7's staging buffer: its pieces read back over junk. -/
def out0_C_7 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) : Vec F S1280x1280 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).1)

/-- Case C stores nothing into scratch `arg12`: it holds what the point before left. -/
def sout0_C_0 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) : Vec F S1280x2304 .bf16 := xs0

/-- Case C's pieces for scratch `arg14`, which the kernel carries between points, cover it: 5 pieces of `S256x128` tiling it (Lib/Ring.lean `Piece.tiledL`). -/
theorem scover0_C_2 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) (y : S1280x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.1 S256x128.size (by sl_kernel_rfl) y

/-- What case C leaves in scratch `arg14`: its pieces read back over junk. -/
def sout0_C_2 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) : Vec F S1280x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.1)

/-- Case C's pieces for scratch `arg15`, which the kernel carries between points, cover it: 5 pieces of `S256x128` tiling it (Lib/Ring.lean `Piece.tiledL`). -/
theorem scover0_C_3 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) (y : S1280x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.2.1 S256x128.size (by sl_kernel_rfl) y

/-- What case C leaves in scratch `arg15`: its pieces read back over junk. -/
def sout0_C_3 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) : Vec F S1280x128 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.2.1)

/-- Case C's pieces for scratch `arg16`, which the kernel carries between points, cover it: 5 pieces of `S256x128` tiling it (Lib/Ring.lean `Piece.tiledL`). -/
theorem scover0_C_4 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) (y : S1280x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.2.2.1 S256x128.size (by sl_kernel_rfl) y

/-- What case C leaves in scratch `arg16`: its pieces read back over junk. -/
def sout0_C_4 (c : Dev nD) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (hc0 : ¬cond0_0 i) (hc1 : cond0_1 i)
    (x0 : Vec F S1280x2304 .bf16) (x1 : Vec F S1x2304 .f32) (x2 : Vec F S1280x128 .i32) (x3 : Vec F S2304x1280 .fp8e4m3) (x4 : Vec F S18x1280 .f32) (xs0 : Vec F S1280x2304 .bf16) (xs2 : Vec F S1280x128 .f32) (xs3 : Vec F S1280x128 .f32) (xs4 : Vec F S1280x128 .f32) : Vec F S1280x128 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs2 xs3 xs4).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x1280 .f32 × Vec F S1280x2304 .bf16 × Vec F S1280x128 .f32 × Vec F S1280x128 .f32 × Vec F S1280x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 50 = 0 then
      if h1 : (n + 1) % 50 = 49 then
        False.elim (by have hN : n + 1 < 300 := lt_of_lt_of_eq hn (show cfg0.N = 300 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 50 = 49 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 50 = 0) (h1 : ¬t.val % 50 = 49) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 50 = 0) (h1 : ¬t.val % 50 = 49) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 50 = 0) (h1 : t.val % 50 = 49) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ owns (c : Thread nD τ) scM0_2 fullShare ((outsAt0 m c (n - 1) (by omega)).2.2.1) ∗ owns (c : Thread nD τ) scM0_3 fullShare ((outsAt0 m c (n - 1) (by omega)).2.2.2.1) ∗ owns (c : Thread nD τ) scM0_4 fullShare ((outsAt0 m c (n - 1) (by omega)).2.2.2.2)) ∗ (∃ r, prngReg c r)) := by
  cases n with
  | zero => exact absurd rfl hz
  | succ n => rfl

/-! ## The pipeline's proof data -/

/-- The output windows this certificate FORGETS (5, 6, 8, 9): nothing reads what the kernel leaves in them, so nothing
    of it is named (Lib/Pipeline/Dat.lean `Dat.toRForget`). -/
def forgets0 : Fin 10 → Bool := fun w => w.val == 5 || w.val == 6 || w.val == 8 || w.val == 9
theorem forgets0_7 : forgets0 (7 : Fin 10) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, _⟩ => (outsAt0 m c t.val t.isLt).1
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_7 (c : Dev nD) (t : Fin cfg0.N) : (dats m 0 c).after 7 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (dats m 0 c).leavesExact 7 t
    ∗ (∃ d, owns (c : Thread nD τ) (ms0_8 t) fullShare d)
    ∗ (∃ d, owns (c : Thread nD τ) (ms0_9 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 300 := lt_of_lt_of_eq t.isLt (show cfg0.N = 300 from N_0)
  by_cases h0 : t.val % 50 = 0
  · by_cases h1 : t.val % 50 = 49
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 7 t = owns (c : Thread nD τ) (ms0_7 t) fullShare ((dats m 0 c).after 7 t) from by
      unfold Dat.leavesExact; rw [liveAt0_7 t], after0_7]
      by_cases hz : t.val = 0
      · rw [PhiS_castSucc m c t, PhiS_zero m c _ _ hz, PhiA0_eq]
        rw [outsAt0_A m c t h0 h1]
        unfold out0_A_7 sout0_A_0 sout0_A_2 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, ⟨%e7, H7⟩, H8, H9, ⟨%es0, HS0⟩, ⟨%fT1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _ _)
        isplitl [H8]; · iexact H8
        iexact H9
      · rw [PhiS_castSucc m c t, PhiS_pos m c _ _ hz]
        rw [outsAt0_A m c t h0 h1]
        unfold out0_A_7 sout0_A_0 sout0_A_2 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexists _; iexact HS0
        isplitl [HS1]; · iexact HS1
        isplitl [HS2]; · iexists _; iexact HS2
        isplitl [HS3]; · iexists _; iexact HS3
        isplitl [HS4]; · iexists _; iexact HS4
        iintro ⟨H0, H1, H2, H3, H4, H5, H6, ⟨%e7, H7⟩, H8, H9, ⟨%es0, HS0⟩, ⟨%fT1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _ _)
        isplitl [H8]; · iexact H8
        iexact H9
  · by_cases h1 : t.val % 50 = 49
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 7 t = owns (c : Thread nD τ) (ms0_7 t) fullShare ((dats m 0 c).after 7 t) from by
      unfold Dat.leavesExact; rw [liveAt0_7 t], after0_7]
      by_cases hz : t.val = 0
      · exfalso; have hN : t.val < 300 := lt_of_lt_of_eq t.isLt (show cfg0.N = 300 from N_0); omega
      · rw [PhiS_castSucc m c t, PhiS_pos m c _ _ hz]
        rw [outsAt0_C m c t h0 h1]
        unfold out0_C_7 sout0_C_0 sout0_C_2 sout0_C_3 sout0_C_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, ⟨%e7, H7⟩, H8, H9, HS0, ⟨%fT1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _ _ _ _ _ _ _)
        isplitl [H8]; · iexact H8
        iexact H9
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 7 t = owns (c : Thread nD τ) (ms0_7 t) fullShare ((dats m 0 c).after 7 t) from by
      unfold Dat.leavesExact; rw [liveAt0_7 t], after0_7]
      by_cases hz : t.val = 0
      · exfalso; have hN : t.val < 300 := lt_of_lt_of_eq t.isLt (show cfg0.N = 300 from N_0); omega
      · rw [PhiS_castSucc m c t, PhiS_pos m c _ _ hz]
        rw [outsAt0_B m c t h0 h1]
        unfold out0_B_7 sout0_B_0 sout0_B_2 sout0_B_3 sout0_B_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, ⟨%e7, H7⟩, H8, H9, HS0, ⟨%fT1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _ _ _ _ _)
        isplitl [H8]; · iexact H8
        iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 300 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: the run ends without fault, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FwdIdeal.Gen

end
-- ==== Proof.Fwd.Plain.lean ====
/- The kernel's frame from the idealised kernel's: the two differ only in that some constants are named, so with each named
   constant taken for the value of its bits they are one program. -/
module

public import proofs.«01_k».proof.Proof.Gen.Fwd
public import proofs.«01_k».proof.Proof.Fwd.Frame

@[expose] public section

noncomputable section

namespace Cert.Fwd.Gen

open Idealize.ShloMosaic Idealize.ShloMosaic.TcCoe Idealize.SL.Sem

variable {F : FTy → Type} [FloatOps F]

/-- The reading of named constants in which each is the value of its bits. -/
abbrev plain : Named F := ⟨fun _ _ φ b => Scalar.ofBits φ b⟩

/-- With it the two body tables are the same. -/
theorem defs₀_eq : @Cert.FwdIdeal.defs₀ F _ plain _ = @Cert.Fwd.defs₀ F _ _ := by
  unfold Cert.FwdIdeal.defs₀ Cert.Fwd.defs₀
  refine congrArg (Defs.onTc (τ := τ)) ?_
  funext l a
  match l, a with
  | 0, (t, s) => rfl

variable (m : (ℓ : Loc nD τ sig) → Buf (Elt F) ℓ) (ρ : Dev nD → PrngReg)

/-- The kernel ends without fault and leaves its arguments as they were. -/
theorem frame : θ_run (Cert.Fwd.defs (F := F)) (onTc (τ := τ) (Cert.Fwd.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have h := congrArg (Pipeline.defs Cert.Fwd.pcfgs) (defs₀_eq (F := F))
  unfold Cert.Fwd.defs
  rw [← h]
  exact @Cert.FwdIdeal.Gen.frame F _ plain m ρ

end Cert.Fwd.Gen

end
-- ==== Proof.Bwd.Value.lean ====
/- What the ideal kernel's results hold after the launch: each block is what the last grid step that writes it left there.
   The result of scales is left unspecified. -/
module

public import proofs.«01_k».proof.Proof.Bwd.Frame
public import Idealize.ShloMosaic.Lib.Pipeline.Value

@[expose] public section

noncomputable section

namespace Cert.BwdIdeal.Value

open Cert.BwdIdeal Cert.BwdIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 9) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 6's array is `(dats m 0 c).arrAt 6 N`. -/
theorem post6 (r : PUnit × MemSt nD τ sig (Elt F)) (h : Pipeline.RDat.FramePost (cfgs 0) (fun c => (dats m 0 c).toRForget forgets0) (V m) r) (c : Dev nD) :
    r.2.mem ((c : Thread nD τ).loc main_v11_0) = (dats m 0 c).arrAt 6 cfg0.N :=
  finalR_out0 m r h c 6 forgets0_6

/-- After the frame run, output window 8's array is `(dats m 0 c).arrAt 8 N`. -/
theorem post8 (r : PUnit × MemSt nD τ sig (Elt F)) (h : Pipeline.RDat.FramePost (cfgs 0) (fun c => (dats m 0 c).toRForget forgets0) (V m) r) (c : Dev nD) :
    r.2.mem ((c : Thread nD τ).loc main_v11_2) = (dats m 0 c).arrAt 8 cfg0.N :=
  finalR_out0 m r h c 8 forgets0_8

/-- After the frame run, argument `main_arg0` is as launched: input window 0 stages it and never writes it back. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- After the frame run, argument `main_arg1` is as launched: no window stages it, and the run leaves the region's other buffers as they were. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 4 stages it and never writes it back. -/
theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  (Pipeline.RDat.FramePost.arr_in h c 4 rfl).trans ((A_eq m c 4).trans (V_main_arg5 m c))

/-- After the frame run, argument `main_arg6` is as launched: no window stages it, and the run leaves the region's other buffers as they were. -/
theorem kept_main_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v11_0) = (dats m 0 c).arrAt 6 cfg0.N
      ∧ r.2.mem ((c : Thread nD τ).loc main_v11_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post6 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.BwdIdeal.Value
-- ==== Proof.Quant.lean ====
/- The scalar mathematics of the quantiser: one power-of-two scale for 128 numbers, and the gradient of one logit. -/
module

public import Idealize.ShloMosaic.Lib.Pointwise

@[expose] public section

noncomputable section

namespace Cert.Quant

open Idealize.ShloMosaic

/-- The natural logarithm of two. -/
def ln2 : EReal := ((Real.log 2 : ℝ) : EReal)

/-- The greatest absolute value of a block of 128 numbers. -/
def amax (f : Fin 128 → EReal) : EReal :=
  Finset.fold max (Ideal.ofBits FTy.f32 4286578688#32) (fun k => FloatOps.absf (F := Ideal) (φ := .f32) (f k)) Finset.univ

/-- One more than the whole part of the binary logarithm. -/
def expo (x : EReal) : EReal := Ideal.liftRound Int.floor (Ideal.div (Ideal.log x) ln2) + 1

/-- The largest code, 448, and its negative; 1/448. -/
def hi : EReal := Ideal.ofBits FTy.f32 1138753536#32
def lo : EReal := Ideal.ofBits FTy.f32 3286237184#32
def c448 : EReal := Ideal.ofBits FTy.f32 991054117#32

/-- The scale of a block whose greatest absolute value is `a`, and its inverse. -/
def up (a : EReal) : EReal := if a * c448 = 0 then 1 else FloatOps.exp2 (F := Ideal) (φ := .f32) (expo (a * c448))
def down (a : EReal) : EReal := if a * c448 = 0 then 1 else FloatOps.exp2 (F := Ideal) (φ := .f32) (0 - expo (a * c448))

/-- The codes of a block. -/
def code (f : Fin 128 → EReal) (k : Fin 128) : EReal := min hi (max lo (f k * down (amax f)))

/-- A block as its codes and its scale give it back. -/
def deq (f : Fin 128 → EReal) (k : Fin 128) : EReal := code f k * up (amax f)

/-- The exponent as the reference takes it: zero for a block of zeros. -/
def rexpo (a : EReal) : EReal := if a = 0 then 0 else expo (a * c448)

/-- The gradient of one logit `l`, with the one-hot label subtracted where `hit` says so. -/
def grad (hit : Bool) (l lse w : EReal) : EReal :=
  (if hit then Ideal.exp (l - lse) - 1 else Ideal.exp (l - lse)) * w

theorem c448_eq : c448 = ((9586981 * (2 : ℝ) ^ (-32 : ℤ) : ℝ) : EReal) := by
  simp [c448, Ideal.ofBits, Ideal.ieee]

theorem mul_c448_eq_zero (a : EReal) : a * c448 = 0 ↔ a = 0 := by
  rw [c448_eq, mul_eq_zero]
  simp

theorem exp2_zero : FloatOps.exp2 (F := Ideal) (φ := .f32) (0 : EReal) = (1 : EReal) := by
  show Ideal.exp2 ((0 : ℝ) : EReal) = 1
  rw [Ideal.exp2_coe]
  simp

theorem up_eq (a : EReal) : up a = FloatOps.exp2 (F := Ideal) (φ := .f32) (rexpo a) := by
  unfold up rexpo
  by_cases h : a = 0
  · rw [if_pos ((mul_c448_eq_zero a).2 h), if_pos h, exp2_zero]
  · rw [if_neg (fun h' => h ((mul_c448_eq_zero a).1 h')), if_neg h]

theorem down_eq (a : EReal) : down a = FloatOps.exp2 (F := Ideal) (φ := .f32) (0 - rexpo a) := by
  unfold down rexpo
  by_cases h : a = 0
  · rw [if_pos ((mul_c448_eq_zero a).2 h), if_pos h, sub_zero, exp2_zero]
  · rw [if_neg (fun h' => h ((mul_c448_eq_zero a).1 h')), if_neg h]

/-- The kernel's choice between the two exponentials, as one gradient. -/
theorem select_grad (a b : BitVec 32) (l lse w : EReal) :
    Scalar.select (IntOp.cmpi CmpIPredicate.eq a b) (Ideal.exp (l - lse) - 1) (Ideal.exp (l - lse)) * w = grad (a == b) l lse w := by
  unfold grad
  by_cases h : a = b
  · simp [IntOp.cmpi, Scalar.select, h]
  · have hb : (a == b) = false := by simpa using h
    simp [IntOp.cmpi, Scalar.select, hb]

/-- The reference's one-hot subtraction, as one gradient. -/
theorem onehot_grad (a b : BitVec 32) (l lse w val : EReal) :
    w * (Ideal.exp (l - lse) - FloatOps.sitofp (F := Ideal) FTy.f32 (BitVec.setWidth 32 (IntOp.cmpi CmpIPredicate.eq a b))) * val
      = grad (a == b) l lse (w * val) := by
  unfold grad
  by_cases h : a = b
  · simp [IntOp.cmpi, h, FloatOps.sitofp]
    ac_rfl
  · have hb : (a == b) = false := by simpa using h
    simp [IntOp.cmpi, hb, FloatOps.sitofp]
    ac_rfl

end Cert.Quant
-- ==== Proof.Bwd.Tile.lean ====
/- One tile of the sweep at one place: the gradient of a 128-column block, its codes, the values they stand for, the
   dequantised weights, and the partial product over the tile's 1280 columns. -/
module

public import proofs.«01_k».proof.Proof.Bwd.Value
public import proofs.«01_k».proof.Proof.Quant
public import Idealize.ShloMosaic.Lib.Pipeline.ValueKit
public import Idealize.ShloMosaic.Lib.Pipeline.ReadBack

@[expose] public section

set_option maxRecDepth 16384

noncomputable section

namespace Cert.BwdIdeal.Gen

open Idealize.ShloMosaic Idealize.ShloMosaic.TcCoe Idealize.SL.Sem Cert.BwdIdeal Cert.Quant

/-- The named constant is the logarithm of two. -/
theorem named_ln2 : Named.named (F := Ideal) (φ := .f32) κ "ln2" 1060205080#32 = ln2 := by
  rfl

/-- The gradient of block `b` of 128 columns of a tile: the kernel's own reading of its operands. -/
def gblk (jw : BitVec 32) (x0 : Vec Ideal S768x1280 .f32) (x1 x2 : Vec Ideal S768x128 .f32) (x3 : Vec Ideal S768x128 .i32)
    (r : Fin 768) (b : Fin 10) (k : Fin 128) : EReal :=
  grad (BitVec.ofNat 32 k.val == x3 (ix2 r k) - jw * 1280#32 - BitVec.ofNat 32 (128 * b.val))
    (x0 (ix2 r ⟨128 * b.val + k.val, by omega⟩)) (x1 (ix2 r k)) (x2 (ix2 r k))

/-- The codes of a tile. -/
def codeV (jw : BitVec 32) (x0 : Vec Ideal S768x1280 .f32) (x1 x2 : Vec Ideal S768x128 .f32) (x3 : Vec Ideal S768x128 .i32)
    (y : S768x1280.Idx) : EReal :=
  code (gblk jw x0 x1 x2 x3 ⟨(y 0).val, (y 0).isLt⟩ ⟨(y 1).val / 128, by have := (y 1).isLt; simp at this; omega⟩)
    ⟨(y 1).val % 128, by omega⟩

/-- The tile as codes and scales give it back. -/
def deqV (jw : BitVec 32) (x0 : Vec Ideal S768x1280 .f32) (x1 x2 : Vec Ideal S768x128 .f32) (x3 : Vec Ideal S768x128 .i32)
    (y : S768x1280.Idx) : EReal :=
  deq (gblk jw x0 x1 x2 x3 ⟨(y 0).val, (y 0).isLt⟩ ⟨(y 1).val / 128, by have := (y 1).isLt; simp at this; omega⟩)
    ⟨(y 1).val % 128, by omega⟩

section
variable (jw : BitVec 32) (x0 : Vec Ideal S768x1280 .f32) (x1 x2 : Vec Ideal S768x128 .f32) (x3 : Vec Ideal S768x128 .i32)
  (y : S768x1280.Idx) (b : Fin 10) (R : Fin 768) (V : Fin 128 → Fin 1280) (k : Fin 128) (s : BitVec 32)
  (hR : (y 0).val = R.val) (hV : ∀ k, (V k).val = 128 * b.val + k.val) (hy : (y 1).val = (V k).val)
  (hs : s = BitVec.ofNat 32 (128 * b.val))
include hR hV hy hs

theorem gblk_piece :
    gblk jw x0 x1 x2 x3 ⟨(y 0).val, (y 0).isLt⟩ ⟨(y 1).val / 128, by have := (y 1).isLt; simp at this; omega⟩ =
      fun k => grad (BitVec.ofNat 32 k.val == x3 (ix2 R k) - jw * 1280#32 - s) (x0 (ix2 R (V k))) (x1 (ix2 R k)) (x2 (ix2 R k)) := by
  subst hs
  funext k'
  have e0 : (⟨(y 0).val, (y 0).isLt⟩ : Fin 768) = R := Fin.ext hR
  have hb : (y 1).val / 128 = b.val := by rw [hy, hV k]; omega
  have e1 : (⟨128 * b.val + k'.val, by omega⟩ : Fin 1280) = V k' := Fin.ext (hV k').symm
  unfold gblk
  simp only [e0, hb, e1]

theorem lane_piece : (⟨(y 1).val % 128, by omega⟩ : Fin 128) = k := by
  apply Fin.ext
  show (y 1).val % 128 = k.val
  rw [hy, hV k]; omega

theorem code_piece : codeV jw x0 x1 x2 x3 y =
    code (fun k => grad (BitVec.ofNat 32 k.val == x3 (ix2 R k) - jw * 1280#32 - s) (x0 (ix2 R (V k))) (x1 (ix2 R k)) (x2 (ix2 R k))) k := by
  unfold codeV
  rw [gblk_piece jw x0 x1 x2 x3 y b R V k s hR hV hy hs, lane_piece y b R V k s hR hV hy hs]

theorem deq_piece : deqV jw x0 x1 x2 x3 y =
    deq (fun k => grad (BitVec.ofNat 32 k.val == x3 (ix2 R k) - jw * 1280#32 - s) (x0 (ix2 R (V k))) (x1 (ix2 R k)) (x2 (ix2 R k))) k := by
  unfold deqV
  rw [gblk_piece jw x0 x1 x2 x3 y b R V k s hR hV hy hs, lane_piece y b R V k s hR hV hy hs]
end

/-- An index within the bounds of the `n`-th stored rectangle is covered. -/
theorem cov_at {Val : EltTy → Type} {e : EltTy} {A B : Nat} (L : List (View.Piece Val ⟨2, ![A, B]⟩ e)) (n a b p q : Nat)
    (inb) (w) (hn : L[n]? = some ⟨Rect.unit ![a, b] ![p, q] inb, w⟩) (y : (⟨2, ![A, B]⟩ : Shape).Idx)
    (h0 : a ≤ (y 0).val) (h0' : (y 0).val < a + p) (h1 : b ≤ (y 1).val) (h1' : (y 1).val < b + q) :
    ∃ P ∈ L, y ∈ P.1.set := by
  refine ⟨_, List.mem_of_getElem? hn, (LoadRect.mem_set _).mpr (Fin.forall_fin_two.mpr ⟨⟨(y 0).val - a, ?_, ?_⟩, ⟨(y 1).val - b, ?_, ?_⟩⟩)⟩
  · show (y 0).val - a < p; omega
  · show (y 0).val = a + 1 * ((y 0).val - a); omega
  · show (y 1).val - b < q; omega
  · show (y 1).val = b + 1 * ((y 1).val - b); omega

/-- The dequantised weights of a tile. -/
def wV (x4 : Vec Ideal S2304x1280 .fp8e4m3) (x5 : Vec Ideal S18x1280 .f32) (q : Fin 2304) (k : Fin 1280) : EReal :=
  x4 (ix2 q k) * x5 (ix2 ⟨q.val / 128, by omega⟩ k)

theorem w_piece (x4 : Vec Ideal S2304x1280 .fp8e4m3) (x5 : Vec Ideal S18x1280 .f32) (q : Fin 2304) (k : Fin 1280)
    (Q : Fin 2304) (K : Fin 1280) (B : Fin 18) (hQ : Q.val = q.val) (hK : K.val = k.val) (hB : B.val = q.val / 128) :
    wV x4 x5 q k = x4 (ix2 Q K) * x5 (ix2 B K) := by
  obtain rfl : Q = q := Fin.ext hQ
  obtain rfl : K = k := Fin.ext hK
  have hB' : (⟨Q.val / 128, by omega⟩ : Fin 18) = B := Fin.ext hB.symm
  unfold wV
  rw [hB']

/-- What a tile adds to the accumulator. -/
def part (jw : BitVec 32) (x0 : Vec Ideal S768x1280 .f32) (x1 x2 : Vec Ideal S768x128 .f32) (x3 : Vec Ideal S768x128 .i32)
    (x4 : Vec Ideal S2304x1280 .fp8e4m3) (x5 : Vec Ideal S18x1280 .f32) (y : S768x2304.Idx) : EReal :=
  ∑ k : Fin 1280, deqV jw x0 x1 x2 x3 (ix2 ⟨(y 0).val, (y 0).isLt⟩ k) * wV x4 x5 ⟨(y 1).val, (y 1).isLt⟩ k

end Cert.BwdIdeal.Gen
-- ==== Proof.Head.lean ====
/- The gradient sweep of the vocabulary head, entry by entry: the codes of the logits' gradient and the gradient of the
   normalised hidden state, as functions of the arguments. -/
module

public import proofs.«01_k».proof.Proof.Quant

@[expose] public section

noncomputable section

namespace Cert.Head

open Idealize.ShloMosaic Cert.Quant

variable (X : FVec Ideal ⟨2, ![7680, 64000]⟩ .f32) (L W V : FVec Ideal ⟨1, ![7680]⟩ .f32) (T : IVec ⟨1, ![7680]⟩ 32)
  (C : FVec Ideal ⟨2, ![2304, 64000]⟩ .fp8e4m3) (S : FVec Ideal ⟨2, ![18, 500]⟩ .f32)

/-- The gradient of the logits of row `r` in block `b` of 128 columns. -/
def gradBlock (r : Fin 7680) (b : Fin 500) (k : Fin 128) : EReal :=
  grad (BitVec.ofNat 32 (128 * b.val + k.val) == T (ix1 r)) (X (ix2 r ⟨128 * b.val + k.val, by omega⟩)) (L (ix1 r))
    (W (ix1 r) * V (ix1 r))

/-- The code of the logits' gradient at row `r`, column `v`. -/
def codeAt (r : Fin 7680) (v : Fin 64000) : EReal :=
  code (gradBlock X L W V T r ⟨v.val / 128, by omega⟩) ⟨v.val % 128, by omega⟩

/-- The logits' gradient at row `r`, column `v`, as its code and its block's scale give it back. -/
def deqAt (r : Fin 7680) (v : Fin 64000) : EReal :=
  deq (gradBlock X L W V T r ⟨v.val / 128, by omega⟩) ⟨v.val % 128, by omega⟩

/-- The head's weight at row `q`, column `v`. -/
def weightAt (q : Fin 2304) (v : Fin 64000) : EReal :=
  C (ix2 q v) * S (ix2 ⟨q.val / 128, by omega⟩ ⟨v.val / 128, by omega⟩)

/-- The gradient of the normalised hidden state at row `r`, column `q`. -/
def dhAt (r : Fin 7680) (q : Fin 2304) : EReal :=
  ∑ v : Fin 64000, deqAt X L W V T r v * weightAt C S q v

/-- The label test inside a tile, against the test at the column in the whole vocabulary. -/
theorem hit_eq (j b k : ℕ) (t : BitVec 32) :
    (BitVec.ofNat 32 k == t - BitVec.ofNat 32 j * 1280#32 - BitVec.ofNat 32 (128 * b)) =
      (BitVec.ofNat 32 (128 * (10 * j + b) + k) == t) := by
  have e : BitVec.ofNat 32 (128 * (10 * j + b) + k) =
      BitVec.ofNat 32 k + BitVec.ofNat 32 (128 * b) + BitVec.ofNat 32 j * 1280#32 := by
    apply BitVec.eq_of_toNat_eq
    simp only [BitVec.toNat_ofNat, BitVec.toNat_add, BitVec.toNat_mul]
    omega
  rw [e, Bool.eq_iff_iff, beq_iff_eq, beq_iff_eq]
  generalize BitVec.ofNat 32 k = x
  generalize BitVec.ofNat 32 (128 * b) = y
  generalize BitVec.ofNat 32 j * 1280#32 = z
  constructor
  · rintro rfl; rw [BitVec.sub_add_cancel, BitVec.sub_add_cancel]
  · rintro rfl; rw [BitVec.add_sub_cancel, BitVec.add_sub_cancel]

end Cert.Head
-- ==== Proof.Bwd.Blocks.lean ====
/- The operands' blocks at each point of the kernel's grid, as entries of the arguments. -/
module

public import proofs.«01_k».proof.Proof.Bwd.Tile
public import proofs.«01_k».proof.Proof.Head
public import Idealize.ShloMosaic.Lib.Pipeline.ValueKit
public import Idealize.ShloMosaic.Lib.Claim

@[expose] public section

set_option maxRecDepth 16384

noncomputable section

namespace Cert.BwdIdeal.Gen

open Idealize.ShloMosaic Idealize.ShloMosaic.TcCoe Idealize.SL.Sem Cert.BwdIdeal Cert.Quant Cert.Head

variable (m : (ℓ : Loc nD τ sig) → Buf (Elt Ideal) ℓ)

/-- The blocks each window is at, point by point. -/
theorem idx : ∀ t : Fin cfg0.N, win0_0.index t = ![t.val / 50, t.val % 50] ∧ win0_1.index t = ![t.val / 50, 0]
    ∧ win0_2.index t = ![t.val / 50, 0] ∧ win0_3.index t = ![t.val / 50, 0] ∧ win0_4.index t = ![0, t.val % 50]
    ∧ win0_5.index t = ![0, t.val % 50] ∧ win0_6.index t = ![t.val / 50, t.val % 50] ∧ win0_8.index t = ![t.val / 50, 0]
    ∧ (grid0.coords t 1).val = t.val % 50 ∧ t.val / 50 < 10 :=
  (by decide +kernel : ∀ t : Fin grid0.N, _)

abbrev aX (c : Dev nD) : FVec Ideal ⟨2, ![7680, 64000]⟩ .f32 := m ((c : Thread nD τ).loc main_arg0)
abbrev aL (c : Dev nD) : FVec Ideal ⟨1, ![7680]⟩ .f32 := m ((c : Thread nD τ).loc main_arg1)
abbrev aW (c : Dev nD) : FVec Ideal ⟨1, ![7680]⟩ .f32 := m ((c : Thread nD τ).loc main_arg2)
abbrev aV (c : Dev nD) : FVec Ideal ⟨1, ![7680]⟩ .f32 := m ((c : Thread nD τ).loc main_arg3)
abbrev aT (c : Dev nD) : IVec ⟨1, ![7680]⟩ 32 := m ((c : Thread nD τ).loc main_arg4)
abbrev aC (c : Dev nD) : FVec Ideal ⟨2, ![2304, 64000]⟩ .fp8e4m3 := m ((c : Thread nD τ).loc main_arg5)
abbrev aS (c : Dev nD) : FVec Ideal ⟨2, ![18, 500]⟩ .f32 := m ((c : Thread nD τ).loc main_arg6)

/-- The block of logits. -/
theorem blk0 (c : Dev nD) (t : Fin cfg0.N) (r : Fin 768) (v : Fin 1280) (R : Fin 7680) (v' : Fin 64000)
    (hR : R.val = t.val / 50 * 768 + r.val) (hv : v'.val = t.val % 50 * 1280 + v.val) :
    (iblk m c 0 t : Vec Ideal S768x1280 .f32) (ix2 r v) = aX m c (ix2 R v') := by
  blk_ext [iblk, V, idx t]

/-- The block of logsumexps, each repeated over the lanes. -/
theorem blk1 (c : Dev nD) (t : Fin cfg0.N) (r : Fin 768) (k : Fin 128) (R : Fin 7680) (hR : R.val = t.val / 50 * 768 + r.val) :
    (iblk m c 1 t : Vec Ideal S768x128 .f32) (ix2 r k) = aL m c (ix1 R) := by
  blk_simp [iblk]
  entry_read
  pointwise
  blk_ext [idx t]

/-- The block of weights times validity, repeated over the lanes. -/
theorem blk2 (c : Dev nD) (t : Fin cfg0.N) (r : Fin 768) (k : Fin 128) (R : Fin 7680) (hR : R.val = t.val / 50 * 768 + r.val) :
    (iblk m c 2 t : Vec Ideal S768x128 .f32) (ix2 r k) = aW m c (ix1 R) * aV m c (ix1 R) := by
  blk_simp [iblk]
  entry_read
  pointwise
  blk_point [idx t]

/-- The block of labels, repeated over the lanes. -/
theorem blk3 (c : Dev nD) (t : Fin cfg0.N) (r : Fin 768) (k : Fin 128) (R : Fin 7680) (hR : R.val = t.val / 50 * 768 + r.val) :
    (iblk m c 3 t : Vec Ideal S768x128 .i32) (ix2 r k) = aT m c (ix1 R) := by
  blk_simp [iblk]
  entry_read
  pointwise
  blk_ext [idx t]

/-- The block of weight codes. -/
theorem blk4 (c : Dev nD) (t : Fin cfg0.N) (q : Fin 2304) (k : Fin 1280) (v' : Fin 64000) (hv : v'.val = t.val % 50 * 1280 + k.val) :
    (iblk m c 4 t : Vec Ideal S2304x1280 .fp8e4m3) (ix2 q k) = aC m c (ix2 q v') := by
  blk_ext [iblk, V, idx t]

/-- The block of weight scales. -/
theorem blk5 (c : Dev nD) (t : Fin cfg0.N) (q : Fin 18) (k : Fin 1280) (b : Fin 500) (hv : b.val = (t.val % 50 * 1280 + k.val) / 128) :
    (iblk m c 5 t : Vec Ideal S18x1280 .f32) (ix2 q k) = aS m c (ix2 q b) := by
  blk_simp [iblk]
  entry_read
  pointwise
  blk_ext [idx t]

end Cert.BwdIdeal.Gen
-- ==== Proof.Bwd.Codes.lean ====
/- What one step writes to the tile of codes: at every place the code of the gradient there. -/
module

public import proofs.«01_k».proof.Proof.Bwd.Tile
public import Idealize.ShloMosaic.Lib.Pipeline.ValueKit
public import Idealize.ShloMosaic.Lib.Pipeline.ReadBack

@[expose] public section

set_option maxRecDepth 16384

noncomputable section

namespace Cert.BwdIdeal.Gen

open Idealize.ShloMosaic Idealize.ShloMosaic.TcCoe Idealize.SL.Sem Cert.BwdIdeal Cert.Quant

variable (m : (ℓ : Loc nD τ sig) → Buf (Elt Ideal) ℓ)

/-- The codes of a first step. -/
theorem codes_A (c : Dev nD) (t : Fin cfg0.N) (h0 : t.val % 50 = 0) (h1 : ¬t.val % 50 = 49) (y) :
    (outsAt0 (F := Ideal) m c t.val t.isLt).1 y = codeV (BitVec.ofNat 32 (grid0.coords t 1)) (iblk m c 0 t) (iblk m c 1 t) (iblk m c 2 t) (iblk m c 3 t) y := by
  rw [outsAt0_A m c t h0 h1]
  frame_out
  canon_tiles x h
  · open_payloads
    pointwise [select_grad, named_ln2]
    refine (code_piece _ _ _ _ _ y 9 ⟨512 + (x 0).val, by omega⟩ (fun k => ⟨1152 + k.val, by omega⟩) ⟨(x 1).val, x1_lt⟩ 1152#32 (by simp only; omega) (fun k => by simp) (by simp only; omega) rfl).symm
  · open_payloads
    pointwise [select_grad, named_ln2]
    refine (code_piece _ _ _ _ _ y 8 ⟨512 + (x 0).val, by omega⟩ (fun k => ⟨1024 + k.val, by omega⟩) ⟨(x 1).val, x1_lt⟩ 1024#32 (by simp only; omega) (fun k => by simp) (by simp only; omega) rfl).symm
  · open_payloads
    pointwise [select_grad, named_ln2]
    refine (code_piece _ _ _ _ _ y 7 ⟨512 + (x 0).val, by omega⟩ (fun k => ⟨896 + k.val, by omega⟩) ⟨(x 1).val, x1_lt⟩ 896#32 (by simp only; omega) (fun k => by simp) (by simp only; omega) rfl).symm
  · open_payloads
    pointwise [select_grad, named_ln2]
    refine (code_piece _ _ _ _ _ y 6 ⟨512 + (x 0).val, by omega⟩ (fun k => ⟨768 + k.val, by omega⟩) ⟨(x 1).val, x1_lt⟩ 768#32 (by simp only; omega) (fun k => by simp) (by simp only; omega) rfl).symm
  · open_payloads
    pointwise [select_grad, named_ln2]
    refine (code_piece _ _ _ _ _ y 5 ⟨512 + (x 0).val, by omega⟩ (fun k => ⟨640 + k.val, by omega⟩) ⟨(x 1).val, x1_lt⟩ 640#32 (by simp only; omega) (fun k => by simp) (by simp only; omega) rfl).symm
  · open_payloads
    pointwise [select_grad, named_ln2]
    refine (code_piece _ _ _ _ _ y 4 ⟨512 + (x 0).val, by omega⟩ (fun k => ⟨512 + k.val, by omega⟩) ⟨(x 1).val, x1_lt⟩ 512#32 (by simp only; omega) (fun k => by simp) (by simp only; omega) rfl).symm
  · open_payloads
    pointwise [select_grad, named_ln2]
    refine (code_piece _ _ _ _ _ y 3 ⟨512 + (x 0).val, by omega⟩ (fun k => ⟨384 + k.val, by omega⟩) ⟨(x 1).val, x1_lt⟩ 384#32 (by simp only; omega) (fun k => by simp) (by simp only; omega) rfl).symm
  · open_payloads
    pointwise [select_grad, named_ln2]
    refine (code_piece _ _ _ _ _ y 2 ⟨512 + (x 0).val, by omega⟩ (fun k => ⟨256 + k.val, by omega⟩) ⟨(x 1).val, x1_lt⟩ 256#32 (by simp only; omega) (fun k => by simp) (by simp only; omega) rfl).symm
  · open_payloads
    pointwise [select_grad, named_ln2]
    refine (code_piece _ _ _ _ _ y 1 ⟨512 + (x 0).val, by omega⟩ (fun k => ⟨128 + k.val, by omega⟩) ⟨(x 1).val, x1_lt⟩ 128#32 (by simp only; omega) (fun k => by simp) (by simp only; omega) rfl).symm
  · open_payloads
    pointwise [select_grad, named_ln2]
    refine (code_piece _ _ _ _ _ y 0 ⟨512 + (x 0).val, by omega⟩ (fun k => ⟨k.val, by omega⟩) ⟨(x 1).val, x1_lt⟩ 0#32 (by simp only; omega) (fun k => by simp) (by simp only; omega) rfl).symm
  · open_payloads
    pointwise [select_grad, named_ln2]
    refine (code_piece _ _ _ _ _ y 9 ⟨256 + (x 0).val, by omega⟩ (fun k => ⟨1152 + k.val, by omega⟩) ⟨(x 1).val, x1_lt⟩ 1152#32 (by simp only; omega) (fun k => by simp) (by simp only; omega) rfl).symm
  · open_payloads
    pointwise [select_grad, named_ln2]
    refine (code_piece _ _ _ _ _ y 8 ⟨256 + (x 0).val, by omega⟩ (fun k => ⟨1024 + k.val, by omega⟩) ⟨(x 1).val, x1_lt⟩ 1024#32 (by simp only; omega) (fun k => by simp) (by simp only; omega) rfl).symm
  · open_payloads
    pointwise [select_grad, named_ln2]
    refine (code_piece _ _ _ _ _ y 7 ⟨256 + (x 0).val, by omega⟩ (fun k => ⟨896 + k.val, by omega⟩) ⟨(x 1).val, x1_lt⟩ 896#32 (by simp only; omega) (fun k => by simp) (by simp only; omega) rfl).symm
  · open_payloads
    pointwise [select_grad, named_ln2]
    refine (code_piece _ _ _ _ _ y 6 ⟨256 + (x 0).val, by omega⟩ (fun k => ⟨768 + k.val, by omega⟩) ⟨(x 1).val, x1_lt⟩ 768#32 (by simp only; omega) (fun k => by simp) (by simp only; omega) rfl).symm
  · open_payloads
    pointwise [select_grad, named_ln2]
    refine (code_piece _ _ _ _ _ y 5 ⟨256 + (x 0).val, by omega⟩ (fun k => ⟨640 + k.val, by omega⟩) ⟨(x 1).val, x1_lt⟩ 640#32 (by simp only; omega) (fun k => by simp) (by simp only; omega) rfl).symm
  · open_payloads
    pointwise [select_grad, named_ln2]
    refine (code_piece _ _ _ _ _ y 4 ⟨256 + (x 0).val, by omega⟩ (fun k => ⟨512 + k.val, by omega⟩) ⟨(x 1).val, x1_lt⟩ 512#32 (by simp only; omega) (fun k => by simp) (by simp only; omega) rfl).symm
  · open_payloads
    pointwise [select_grad, named_ln2]
    refine (code_piece _ _ _ _ _ y 3 ⟨256 + (x 0).val, by omega⟩ (fun k => ⟨384 + k.val, by omega⟩) ⟨(x 1).val, x1_lt⟩ 384#32 (by simp only; omega) (fun k => by simp) (by simp only; omega) rfl).symm
  · open_payloads
    pointwise [select_grad, named_ln2]
    refine (code_piece _ _ _ _ _ y 2 ⟨256 + (x 0).val, by omega⟩ (fun k => ⟨256 + k.val, by omega⟩) ⟨(x 1).val, x1_lt⟩ 256#32 (by simp only; omega) (fun k => by simp) (by simp only; omega) rfl).symm
  · open_payloads
    pointwise [select_grad, named_ln2]
    refine (code_piece _ _ _ _ _ y 1 ⟨256 + (x 0).val, by omega⟩ (fun k => ⟨128 + k.val, by omega⟩) ⟨(x 1).val, x1_lt⟩ 128#32 (by simp only; omega) (fun k => by simp) (by simp only; omega) rfl).symm
  · open_payloads
    pointwise [select_grad, named_ln2]
    refine (code_piece _ _ _ _ _ y 0 ⟨256 + (x 0).val, by omega⟩ (fun k => ⟨k.val, by omega⟩) ⟨(x 1).val, x1_lt⟩ 0#32 (by simp only; omega) (fun k => by simp) (by simp only; omega) rfl).symm
  · open_payloads
    pointwise [select_grad, named_ln2]
    refine (code_piece _ _ _ _ _ y 9 ⟨(x 0).val, by omega⟩ (fun k => ⟨1152 + k.val, by omega⟩) ⟨(x 1).val, x1_lt⟩ 1152#32 (by simp only; omega) (fun k => by simp) (by simp only; omega) rfl).symm
  · open_payloads
    pointwise [select_grad, named_ln2]
    refine (code_piece _ _ _ _ _ y 8 ⟨(x 0).val, by omega⟩ (fun k => ⟨1024 + k.val, by omega⟩) ⟨(x 1).val, x1_lt⟩ 1024#32 (by simp only; omega) (fun k => by simp) (by simp only; omega) rfl).symm
  · open_payloads
    pointwise [select_grad, named_ln2]
    refine (code_piece _ _ _ _ _ y 7 ⟨(x 0).val, by omega⟩ (fun k => ⟨896 + k.val, by omega⟩) ⟨(x 1).val, x1_lt⟩ 896#32 (by simp only; omega) (fun k => by simp) (by simp only; omega) rfl).symm
  · open_payloads
    pointwise [select_grad, named_ln2]
    refine (code_piece _ _ _ _ _ y 6 ⟨(x 0).val, by omega⟩ (fun k => ⟨768 + k.val, by omega⟩) ⟨(x 1).val, x1_lt⟩ 768#32 (by simp only; omega) (fun k => by simp) (by simp only; omega) rfl).symm
  · open_payloads
    pointwise [select_grad, named_ln2]
    refine (code_piece _ _ _ _ _ y 5 ⟨(x 0).val, by omega⟩ (fun k => ⟨640 + k.val, by omega⟩) ⟨(x 1).val, x1_lt⟩ 640#32 (by simp only; omega) (fun k => by simp) (by simp only; omega) rfl).symm
  · open_payloads
    pointwise [select_grad, named_ln2]
    refine (code_piece _ _ _ _ _ y 4 ⟨(x 0).val, by omega⟩ (fun k => ⟨512 + k.val, by omega⟩) ⟨(x 1).val, x1_lt⟩ 512#32 (by simp only; omega) (fun k => by simp) (by simp only; omega) rfl).symm
  · open_payloads
    pointwise [select_grad, named_ln2]
    refine (code_piece _ _ _ _ _ y 3 ⟨(x 0).val, by omega⟩ (fun k => ⟨384 + k.val, by omega⟩) ⟨(x 1).val, x1_lt⟩ 384#32 (by simp only; omega) (fun k => by simp) (by simp only; omega) rfl).symm
  · open_payloads
    pointwise [select_grad, named_ln2]
    refine (code_piece _ _ _ _ _ y 2 ⟨(x 0).val, by omega⟩ (fun k => ⟨256 + k.val, by omega⟩) ⟨(x 1).val, x1_lt⟩ 256#32 (by simp only; omega) (fun k => by simp) (by simp only; omega) rfl).symm
  · open_payloads
    pointwise [select_grad, named_ln2]
    refine (code_piece _ _ _ _ _ y 1 ⟨(x 0).val, by omega⟩ (fun k => ⟨128 + k.val, by omega⟩) ⟨(x 1).val, x1_lt⟩ 128#32 (by simp only; omega) (fun k => by simp) (by simp only; omega) rfl).symm
  · open_payloads
    pointwise [select_grad, named_ln2]
    refine (code_piece _ _ _ _ _ y 0 ⟨(x 0).val, by omega⟩ (fun k => ⟨k.val, by omega⟩) ⟨(x 1).val, x1_lt⟩ 0#32 (by simp only; omega) (fun k => by simp) (by simp only; omega) rfl).symm

/-- The codes of a middle step. -/
theorem codes_B (c : Dev nD) (t : Fin cfg0.N) (h0 : ¬t.val % 50 = 0) (h1 : ¬t.val % 50 = 49) (y) :
    (outsAt0 (F := Ideal) m c t.val t.isLt).1 y = codeV (BitVec.ofNat 32 (grid0.coords t 1)) (iblk m c 0 t) (iblk m c 1 t) (iblk m c 2 t) (iblk m c 3 t) y := by
  rw [outsAt0_B m c t h0 h1]
  frame_out
  canon_tiles x h
  · open_payloads
    pointwise [select_grad, named_ln2]
    refine (code_piece _ _ _ _ _ y 9 ⟨512 + (x 0).val, by omega⟩ (fun k => ⟨1152 + k.val, by omega⟩) ⟨(x 1).val, x1_lt⟩ 1152#32 (by simp only; omega) (fun k => by simp) (by simp only; omega) rfl).symm
  · open_payloads
    pointwise [select_grad, named_ln2]
    refine (code_piece _ _ _ _ _ y 8 ⟨512 + (x 0).val, by omega⟩ (fun k => ⟨1024 + k.val, by omega⟩) ⟨(x 1).val, x1_lt⟩ 1024#32 (by simp only; omega) (fun k => by simp) (by simp only; omega) rfl).symm
  · open_payloads
    pointwise [select_grad, named_ln2]
    refine (code_piece _ _ _ _ _ y 7 ⟨512 + (x 0).val, by omega⟩ (fun k => ⟨896 + k.val, by omega⟩) ⟨(x 1).val, x1_lt⟩ 896#32 (by simp only; omega) (fun k => by simp) (by simp only; omega) rfl).symm
  · open_payloads
    pointwise [select_grad, named_ln2]
    refine (code_piece _ _ _ _ _ y 6 ⟨512 + (x 0).val, by omega⟩ (fun k => ⟨768 + k.val, by omega⟩) ⟨(x 1).val, x1_lt⟩ 768#32 (by simp only; omega) (fun k => by simp) (by simp only; omega) rfl).symm
  · open_payloads
    pointwise [select_grad, named_ln2]
    refine (code_piece _ _ _ _ _ y 5 ⟨512 + (x 0).val, by omega⟩ (fun k => ⟨640 + k.val, by omega⟩) ⟨(x 1).val, x1_lt⟩ 640#32 (by simp only; omega) (fun k => by simp) (by simp only; omega) rfl).symm
  · open_payloads
    pointwise [select_grad, named_ln2]
    refine (code_piece _ _ _ _ _ y 4 ⟨512 + (x 0).val, by omega⟩ (fun k => ⟨512 + k.val, by omega⟩) ⟨(x 1).val, x1_lt⟩ 512#32 (by simp only; omega) (fun k => by simp) (by simp only; omega) rfl).symm
  · open_payloads
    pointwise [select_grad, named_ln2]
    refine (code_piece _ _ _ _ _ y 3 ⟨512 + (x 0).val, by omega⟩ (fun k => ⟨384 + k.val, by omega⟩) ⟨(x 1).val, x1_lt⟩ 384#32 (by simp only; omega) (fun k => by simp) (by simp only; omega) rfl).symm
  · open_payloads
    pointwise [select_grad, named_ln2]
    refine (code_piece _ _ _ _ _ y 2 ⟨512 + (x 0).val, by omega⟩ (fun k => ⟨256 + k.val, by omega⟩) ⟨(x 1).val, x1_lt⟩ 256#32 (by simp only; omega) (fun k => by simp) (by simp only; omega) rfl).symm
  · open_payloads
    pointwise [select_grad, named_ln2]
    refine (code_piece _ _ _ _ _ y 1 ⟨512 + (x 0).val, by omega⟩ (fun k => ⟨128 + k.val, by omega⟩) ⟨(x 1).val, x1_lt⟩ 128#32 (by simp only; omega) (fun k => by simp) (by simp only; omega) rfl).symm
  · open_payloads
    pointwise [select_grad, named_ln2]
    refine (code_piece _ _ _ _ _ y 0 ⟨512 + (x 0).val, by omega⟩ (fun k => ⟨k.val, by omega⟩) ⟨(x 1).val, x1_lt⟩ 0#32 (by simp only; omega) (fun k => by simp) (by simp only; omega) rfl).symm
  · open_payloads
    pointwise [select_grad, named_ln2]
    refine (code_piece _ _ _ _ _ y 9 ⟨256 + (x 0).val, by omega⟩ (fun k => ⟨1152 + k.val, by omega⟩) ⟨(x 1).val, x1_lt⟩ 1152#32 (by simp only; omega) (fun k => by simp) (by simp only; omega) rfl).symm
  · open_payloads
    pointwise [select_grad, named_ln2]
    refine (code_piece _ _ _ _ _ y 8 ⟨256 + (x 0).val, by omega⟩ (fun k => ⟨1024 + k.val, by omega⟩) ⟨(x 1).val, x1_lt⟩ 1024#32 (by simp only; omega) (fun k => by simp) (by simp only; omega) rfl).symm
  · open_payloads
    pointwise [select_grad, named_ln2]
    refine (code_piece _ _ _ _ _ y 7 ⟨256 + (x 0).val, by omega⟩ (fun k => ⟨896 + k.val, by omega⟩) ⟨(x 1).val, x1_lt⟩ 896#32 (by simp only; omega) (fun k => by simp) (by simp only; omega) rfl).symm
  · open_payloads
    pointwise [select_grad, named_ln2]
    refine (code_piece _ _ _ _ _ y 6 ⟨256 + (x 0).val, by omega⟩ (fun k => ⟨768 + k.val, by omega⟩) ⟨(x 1).val, x1_lt⟩ 768#32 (by simp only; omega) (fun k => by simp) (by simp only; omega) rfl).symm
  · open_payloads
    pointwise [select_grad, named_ln2]
    refine (code_piece _ _ _ _ _ y 5 ⟨256 + (x 0).val, by omega⟩ (fun k => ⟨640 + k.val, by omega⟩) ⟨(x 1).val, x1_lt⟩ 640#32 (by simp only; omega) (fun k => by simp) (by simp only; omega) rfl).symm
  · open_payloads
    pointwise [select_grad, named_ln2]
    refine (code_piece _ _ _ _ _ y 4 ⟨256 + (x 0).val, by omega⟩ (fun k => ⟨512 + k.val, by omega⟩) ⟨(x 1).val, x1_lt⟩ 512#32 (by simp only; omega) (fun k => by simp) (by simp only; omega) rfl).symm
  · open_payloads
    pointwise [select_grad, named_ln2]
    refine (code_piece _ _ _ _ _ y 3 ⟨256 + (x 0).val, by omega⟩ (fun k => ⟨384 + k.val, by omega⟩) ⟨(x 1).val, x1_lt⟩ 384#32 (by simp only; omega) (fun k => by simp) (by simp only; omega) rfl).symm
  · open_payloads
    pointwise [select_grad, named_ln2]
    refine (code_piece _ _ _ _ _ y 2 ⟨256 + (x 0).val, by omega⟩ (fun k => ⟨256 + k.val, by omega⟩) ⟨(x 1).val, x1_lt⟩ 256#32 (by simp only; omega) (fun k => by simp) (by simp only; omega) rfl).symm
  · open_payloads
    pointwise [select_grad, named_ln2]
    refine (code_piece _ _ _ _ _ y 1 ⟨256 + (x 0).val, by omega⟩ (fun k => ⟨128 + k.val, by omega⟩) ⟨(x 1).val, x1_lt⟩ 128#32 (by simp only; omega) (fun k => by simp) (by simp only; omega) rfl).symm
  · open_payloads
    pointwise [select_grad, named_ln2]
    refine (code_piece _ _ _ _ _ y 0 ⟨256 + (x 0).val, by omega⟩ (fun k => ⟨k.val, by omega⟩) ⟨(x 1).val, x1_lt⟩ 0#32 (by simp only; omega) (fun k => by simp) (by simp only; omega) rfl).symm
  · open_payloads
    pointwise [select_grad, named_ln2]
    refine (code_piece _ _ _ _ _ y 9 ⟨(x 0).val, by omega⟩ (fun k => ⟨1152 + k.val, by omega⟩) ⟨(x 1).val, x1_lt⟩ 1152#32 (by simp only; omega) (fun k => by simp) (by simp only; omega) rfl).symm
  · open_payloads
    pointwise [select_grad, named_ln2]
    refine (code_piece _ _ _ _ _ y 8 ⟨(x 0).val, by omega⟩ (fun k => ⟨1024 + k.val, by omega⟩) ⟨(x 1).val, x1_lt⟩ 1024#32 (by simp only; omega) (fun k => by simp) (by simp only; omega) rfl).symm
  · open_payloads
    pointwise [select_grad, named_ln2]
    refine (code_piece _ _ _ _ _ y 7 ⟨(x 0).val, by omega⟩ (fun k => ⟨896 + k.val, by omega⟩) ⟨(x 1).val, x1_lt⟩ 896#32 (by simp only; omega) (fun k => by simp) (by simp only; omega) rfl).symm
  · open_payloads
    pointwise [select_grad, named_ln2]
    refine (code_piece _ _ _ _ _ y 6 ⟨(x 0).val, by omega⟩ (fun k => ⟨768 + k.val, by omega⟩) ⟨(x 1).val, x1_lt⟩ 768#32 (by simp only; omega) (fun k => by simp) (by simp only; omega) rfl).symm
  · open_payloads
    pointwise [select_grad, named_ln2]
    refine (code_piece _ _ _ _ _ y 5 ⟨(x 0).val, by omega⟩ (fun k => ⟨640 + k.val, by omega⟩) ⟨(x 1).val, x1_lt⟩ 640#32 (by simp only; omega) (fun k => by simp) (by simp only; omega) rfl).symm
  · open_payloads
    pointwise [select_grad, named_ln2]
    refine (code_piece _ _ _ _ _ y 4 ⟨(x 0).val, by omega⟩ (fun k => ⟨512 + k.val, by omega⟩) ⟨(x 1).val, x1_lt⟩ 512#32 (by simp only; omega) (fun k => by simp) (by simp only; omega) rfl).symm
  · open_payloads
    pointwise [select_grad, named_ln2]
    refine (code_piece _ _ _ _ _ y 3 ⟨(x 0).val, by omega⟩ (fun k => ⟨384 + k.val, by omega⟩) ⟨(x 1).val, x1_lt⟩ 384#32 (by simp only; omega) (fun k => by simp) (by simp only; omega) rfl).symm
  · open_payloads
    pointwise [select_grad, named_ln2]
    refine (code_piece _ _ _ _ _ y 2 ⟨(x 0).val, by omega⟩ (fun k => ⟨256 + k.val, by omega⟩) ⟨(x 1).val, x1_lt⟩ 256#32 (by simp only; omega) (fun k => by simp) (by simp only; omega) rfl).symm
  · open_payloads
    pointwise [select_grad, named_ln2]
    refine (code_piece _ _ _ _ _ y 1 ⟨(x 0).val, by omega⟩ (fun k => ⟨128 + k.val, by omega⟩) ⟨(x 1).val, x1_lt⟩ 128#32 (by simp only; omega) (fun k => by simp) (by simp only; omega) rfl).symm
  · open_payloads
    pointwise [select_grad, named_ln2]
    refine (code_piece _ _ _ _ _ y 0 ⟨(x 0).val, by omega⟩ (fun k => ⟨k.val, by omega⟩) ⟨(x 1).val, x1_lt⟩ 0#32 (by simp only; omega) (fun k => by simp) (by simp only; omega) rfl).symm

/-- The codes of a last step. -/
theorem codes_C (c : Dev nD) (t : Fin cfg0.N) (h0 : ¬t.val % 50 = 0) (h1 : t.val % 50 = 49) (y) :
    (outsAt0 (F := Ideal) m c t.val t.isLt).1 y = codeV (BitVec.ofNat 32 (grid0.coords t 1)) (iblk m c 0 t) (iblk m c 1 t) (iblk m c 2 t) (iblk m c 3 t) y := by
  rw [outsAt0_C m c t h0 h1]
  frame_out
  canon_tiles x h
  · open_payloads
    pointwise [select_grad, named_ln2]
    refine (code_piece _ _ _ _ _ y 9 ⟨512 + (x 0).val, by omega⟩ (fun k => ⟨1152 + k.val, by omega⟩) ⟨(x 1).val, x1_lt⟩ 1152#32 (by simp only; omega) (fun k => by simp) (by simp only; omega) rfl).symm
  · open_payloads
    pointwise [select_grad, named_ln2]
    refine (code_piece _ _ _ _ _ y 8 ⟨512 + (x 0).val, by omega⟩ (fun k => ⟨1024 + k.val, by omega⟩) ⟨(x 1).val, x1_lt⟩ 1024#32 (by simp only; omega) (fun k => by simp) (by simp only; omega) rfl).symm
  · open_payloads
    pointwise [select_grad, named_ln2]
    refine (code_piece _ _ _ _ _ y 7 ⟨512 + (x 0).val, by omega⟩ (fun k => ⟨896 + k.val, by omega⟩) ⟨(x 1).val, x1_lt⟩ 896#32 (by simp only; omega) (fun k => by simp) (by simp only; omega) rfl).symm
  · open_payloads
    pointwise [select_grad, named_ln2]
    refine (code_piece _ _ _ _ _ y 6 ⟨512 + (x 0).val, by omega⟩ (fun k => ⟨768 + k.val, by omega⟩) ⟨(x 1).val, x1_lt⟩ 768#32 (by simp only; omega) (fun k => by simp) (by simp only; omega) rfl).symm
  · open_payloads
    pointwise [select_grad, named_ln2]
    refine (code_piece _ _ _ _ _ y 5 ⟨512 + (x 0).val, by omega⟩ (fun k => ⟨640 + k.val, by omega⟩) ⟨(x 1).val, x1_lt⟩ 640#32 (by simp only; omega) (fun k => by simp) (by simp only; omega) rfl).symm
  · open_payloads
    pointwise [select_grad, named_ln2]
    refine (code_piece _ _ _ _ _ y 4 ⟨512 + (x 0).val, by omega⟩ (fun k => ⟨512 + k.val, by omega⟩) ⟨(x 1).val, x1_lt⟩ 512#32 (by simp only; omega) (fun k => by simp) (by simp only; omega) rfl).symm
  · open_payloads
    pointwise [select_grad, named_ln2]
    refine (code_piece _ _ _ _ _ y 3 ⟨512 + (x 0).val, by omega⟩ (fun k => ⟨384 + k.val, by omega⟩) ⟨(x 1).val, x1_lt⟩ 384#32 (by simp only; omega) (fun k => by simp) (by simp only; omega) rfl).symm
  · open_payloads
    pointwise [select_grad, named_ln2]
    refine (code_piece _ _ _ _ _ y 2 ⟨512 + (x 0).val, by omega⟩ (fun k => ⟨256 + k.val, by omega⟩) ⟨(x 1).val, x1_lt⟩ 256#32 (by simp only; omega) (fun k => by simp) (by simp only; omega) rfl).symm
  · open_payloads
    pointwise [select_grad, named_ln2]
    refine (code_piece _ _ _ _ _ y 1 ⟨512 + (x 0).val, by omega⟩ (fun k => ⟨128 + k.val, by omega⟩) ⟨(x 1).val, x1_lt⟩ 128#32 (by simp only; omega) (fun k => by simp) (by simp only; omega) rfl).symm
  · open_payloads
    pointwise [select_grad, named_ln2]
    refine (code_piece _ _ _ _ _ y 0 ⟨512 + (x 0).val, by omega⟩ (fun k => ⟨k.val, by omega⟩) ⟨(x 1).val, x1_lt⟩ 0#32 (by simp only; omega) (fun k => by simp) (by simp only; omega) rfl).symm
  · open_payloads
    pointwise [select_grad, named_ln2]
    refine (code_piece _ _ _ _ _ y 9 ⟨256 + (x 0).val, by omega⟩ (fun k => ⟨1152 + k.val, by omega⟩) ⟨(x 1).val, x1_lt⟩ 1152#32 (by simp only; omega) (fun k => by simp) (by simp only; omega) rfl).symm
  · open_payloads
    pointwise [select_grad, named_ln2]
    refine (code_piece _ _ _ _ _ y 8 ⟨256 + (x 0).val, by omega⟩ (fun k => ⟨1024 + k.val, by omega⟩) ⟨(x 1).val, x1_lt⟩ 1024#32 (by simp only; omega) (fun k => by simp) (by simp only; omega) rfl).symm
  · open_payloads
    pointwise [select_grad, named_ln2]
    refine (code_piece _ _ _ _ _ y 7 ⟨256 + (x 0).val, by omega⟩ (fun k => ⟨896 + k.val, by omega⟩) ⟨(x 1).val, x1_lt⟩ 896#32 (by simp only; omega) (fun k => by simp) (by simp only; omega) rfl).symm
  · open_payloads
    pointwise [select_grad, named_ln2]
    refine (code_piece _ _ _ _ _ y 6 ⟨256 + (x 0).val, by omega⟩ (fun k => ⟨768 + k.val, by omega⟩) ⟨(x 1).val, x1_lt⟩ 768#32 (by simp only; omega) (fun k => by simp) (by simp only; omega) rfl).symm
  · open_payloads
    pointwise [select_grad, named_ln2]
    refine (code_piece _ _ _ _ _ y 5 ⟨256 + (x 0).val, by omega⟩ (fun k => ⟨640 + k.val, by omega⟩) ⟨(x 1).val, x1_lt⟩ 640#32 (by simp only; omega) (fun k => by simp) (by simp only; omega) rfl).symm
  · open_payloads
    pointwise [select_grad, named_ln2]
    refine (code_piece _ _ _ _ _ y 4 ⟨256 + (x 0).val, by omega⟩ (fun k => ⟨512 + k.val, by omega⟩) ⟨(x 1).val, x1_lt⟩ 512#32 (by simp only; omega) (fun k => by simp) (by simp only; omega) rfl).symm
  · open_payloads
    pointwise [select_grad, named_ln2]
    refine (code_piece _ _ _ _ _ y 3 ⟨256 + (x 0).val, by omega⟩ (fun k => ⟨384 + k.val, by omega⟩) ⟨(x 1).val, x1_lt⟩ 384#32 (by simp only; omega) (fun k => by simp) (by simp only; omega) rfl).symm
  · open_payloads
    pointwise [select_grad, named_ln2]
    refine (code_piece _ _ _ _ _ y 2 ⟨256 + (x 0).val, by omega⟩ (fun k => ⟨256 + k.val, by omega⟩) ⟨(x 1).val, x1_lt⟩ 256#32 (by simp only; omega) (fun k => by simp) (by simp only; omega) rfl).symm
  · open_payloads
    pointwise [select_grad, named_ln2]
    refine (code_piece _ _ _ _ _ y 1 ⟨256 + (x 0).val, by omega⟩ (fun k => ⟨128 + k.val, by omega⟩) ⟨(x 1).val, x1_lt⟩ 128#32 (by simp only; omega) (fun k => by simp) (by simp only; omega) rfl).symm
  · open_payloads
    pointwise [select_grad, named_ln2]
    refine (code_piece _ _ _ _ _ y 0 ⟨256 + (x 0).val, by omega⟩ (fun k => ⟨k.val, by omega⟩) ⟨(x 1).val, x1_lt⟩ 0#32 (by simp only; omega) (fun k => by simp) (by simp only; omega) rfl).symm
  · open_payloads
    pointwise [select_grad, named_ln2]
    refine (code_piece _ _ _ _ _ y 9 ⟨(x 0).val, by omega⟩ (fun k => ⟨1152 + k.val, by omega⟩) ⟨(x 1).val, x1_lt⟩ 1152#32 (by simp only; omega) (fun k => by simp) (by simp only; omega) rfl).symm
  · open_payloads
    pointwise [select_grad, named_ln2]
    refine (code_piece _ _ _ _ _ y 8 ⟨(x 0).val, by omega⟩ (fun k => ⟨1024 + k.val, by omega⟩) ⟨(x 1).val, x1_lt⟩ 1024#32 (by simp only; omega) (fun k => by simp) (by simp only; omega) rfl).symm
  · open_payloads
    pointwise [select_grad, named_ln2]
    refine (code_piece _ _ _ _ _ y 7 ⟨(x 0).val, by omega⟩ (fun k => ⟨896 + k.val, by omega⟩) ⟨(x 1).val, x1_lt⟩ 896#32 (by simp only; omega) (fun k => by simp) (by simp only; omega) rfl).symm
  · open_payloads
    pointwise [select_grad, named_ln2]
    refine (code_piece _ _ _ _ _ y 6 ⟨(x 0).val, by omega⟩ (fun k => ⟨768 + k.val, by omega⟩) ⟨(x 1).val, x1_lt⟩ 768#32 (by simp only; omega) (fun k => by simp) (by simp only; omega) rfl).symm
  · open_payloads
    pointwise [select_grad, named_ln2]
    refine (code_piece _ _ _ _ _ y 5 ⟨(x 0).val, by omega⟩ (fun k => ⟨640 + k.val, by omega⟩) ⟨(x 1).val, x1_lt⟩ 640#32 (by simp only; omega) (fun k => by simp) (by simp only; omega) rfl).symm
  · open_payloads
    pointwise [select_grad, named_ln2]
    refine (code_piece _ _ _ _ _ y 4 ⟨(x 0).val, by omega⟩ (fun k => ⟨512 + k.val, by omega⟩) ⟨(x 1).val, x1_lt⟩ 512#32 (by simp only; omega) (fun k => by simp) (by simp only; omega) rfl).symm
  · open_payloads
    pointwise [select_grad, named_ln2]
    refine (code_piece _ _ _ _ _ y 3 ⟨(x 0).val, by omega⟩ (fun k => ⟨384 + k.val, by omega⟩) ⟨(x 1).val, x1_lt⟩ 384#32 (by simp only; omega) (fun k => by simp) (by simp only; omega) rfl).symm
  · open_payloads
    pointwise [select_grad, named_ln2]
    refine (code_piece _ _ _ _ _ y 2 ⟨(x 0).val, by omega⟩ (fun k => ⟨256 + k.val, by omega⟩) ⟨(x 1).val, x1_lt⟩ 256#32 (by simp only; omega) (fun k => by simp) (by simp only; omega) rfl).symm
  · open_payloads
    pointwise [select_grad, named_ln2]
    refine (code_piece _ _ _ _ _ y 1 ⟨(x 0).val, by omega⟩ (fun k => ⟨128 + k.val, by omega⟩) ⟨(x 1).val, x1_lt⟩ 128#32 (by simp only; omega) (fun k => by simp) (by simp only; omega) rfl).symm
  · open_payloads
    pointwise [select_grad, named_ln2]
    refine (code_piece _ _ _ _ _ y 0 ⟨(x 0).val, by omega⟩ (fun k => ⟨k.val, by omega⟩) ⟨(x 1).val, x1_lt⟩ 0#32 (by simp only; omega) (fun k => by simp) (by simp only; omega) rfl).symm

end Cert.BwdIdeal.Gen
-- ==== Proof.Bwd.AccA.lean ====
/- The accumulator after the first vocabulary step of a row tile: zero plus the tile's partial product. -/
module

public import proofs.«01_k».proof.Proof.Bwd.Tile
public import Idealize.ShloMosaic.Lib.Pipeline.ValueKit
public import Idealize.ShloMosaic.Lib.Pipeline.ReadBack

@[expose] public section

set_option maxRecDepth 16384

noncomputable section

namespace Cert.BwdIdeal.Gen

open Idealize.ShloMosaic Idealize.ShloMosaic.TcCoe Idealize.SL.Sem Cert.BwdIdeal Cert.Quant

/-- A store that the three later ones hide at an index may be left out there. -/
theorem canon_drop4 {S : Shape} {e : EltTy} (p q r z : View.Piece (Elt Ideal) S e) (y : S.Idx)
    (h : ∃ P ∈ [p, q, r], y ∈ P.1.set) :
    View.canon (Val := Elt Ideal) [p, q, r, z] y = View.canon (Val := Elt Ideal) [p, q, r] y := by
  by_cases hp : y ∈ p.1.set
  · obtain ⟨x, rfl⟩ := p.1.exists_idx_of_mem hp
    rw [show p.1.idx x = p.1.emb x from rfl]
    exact (View.canon_cons_emb p.1 p.2 _ x).trans (View.canon_cons_emb p.1 p.2 _ x).symm
  rw [View.canon_cons_of_not_mem _ _ hp, View.canon_cons_of_not_mem _ _ hp]
  by_cases hq : y ∈ q.1.set
  · obtain ⟨x, rfl⟩ := q.1.exists_idx_of_mem hq
    rw [show q.1.idx x = q.1.emb x from rfl]
    exact (View.canon_cons_emb q.1 q.2 _ x).trans (View.canon_cons_emb q.1 q.2 _ x).symm
  rw [View.canon_cons_of_not_mem _ _ hq, View.canon_cons_of_not_mem _ _ hq]
  by_cases hr : y ∈ r.1.set
  · obtain ⟨x, rfl⟩ := r.1.exists_idx_of_mem hr
    rw [show r.1.idx x = r.1.emb x from rfl]
    exact (View.canon_cons_emb r.1 r.2 _ x).trans (View.canon_cons_emb r.1 r.2 _ x).symm
  obtain ⟨P, hP, hy⟩ := h
  simp only [List.mem_cons, List.not_mem_nil, or_false] at hP
  rcases hP with rfl | rfl | rfl
  · exact absurd hy hp
  · exact absurd hy hq
  · exact absurd hy hr

variable (m : (ℓ : Loc nD τ sig) → Buf (Elt Ideal) ℓ)

set_option maxHeartbeats 1000000 in
/-- The accumulator after a first step: the partial product alone. -/
theorem acc_A (c : Dev nD) (t : Fin cfg0.N) (h0 : t.val % 50 = 0) (h1 : ¬t.val % 50 = 49) (y) :
    (outsAt0 (F := Ideal) m c t.val t.isLt).2.2 y = part (BitVec.ofNat 32 (grid0.coords t 1)) (iblk m c 0 t) (iblk m c 1 t) (iblk m c 2 t) (iblk m c 3 t) (iblk m c 4 t) (iblk m c 5 t) y := by
  rw [outsAt0_A m c t h0 h1]
  frame_out
  have y0_lt : (y 0).val < 768 := (y 0).isLt
  have y1_lt : (y 1).val < 2304 := (y 1).isLt
  rw [canon_drop4 _ _ _ _ y (by
    obtain h | h | h : (y 0).val / 256 = 2 ∨ (y 0).val / 256 = 1 ∨ (y 0).val / 256 = 0 := by omega
    · exact cov_at _ 0 512 0 256 2304 _ _ rfl _ (by omega) (by omega) (by omega) (by omega)
    · exact cov_at _ 1 256 0 256 2304 _ _ rfl _ (by omega) (by omega) (by omega) (by omega)
    · exact cov_at _ 2 0 0 256 2304 _ _ rfl _ (by omega) (by omega) (by omega) (by omega))]
  canon_tiles x h
  · simp only [View.readCov_eq_canon' (Val := Elt Ideal)]
    generalize hac : (View.canon (Val := Elt Ideal) _ : S768x2304.Idx → Elt Ideal .f32) = ac
    generalize hgb : (View.canon (Val := Elt Ideal) _ : S768x1280.Idx → Elt Ideal .bf16) = gb
    generalize hwb : (View.canon (Val := Elt Ideal) _ : S2304x1280.Idx → Elt Ideal .bf16) = wb
    open_payloads
    pointwise
    have hz : (show EReal from ac (ix2 ⟨512 + (x 0).val, by omega⟩ (x 1))) = 0 := by
      show ac _ = _
      rw [← hac]
      clear hac hgb hwb wb gb ac
      generalize hy : (ix2 (⟨512 + (x 0).val, by omega⟩ : Fin 768) (⟨(x 1).val, x1_lt⟩ : Fin 2304) : S768x2304.Idx) = y'
      have hy0 : (y' 0).val = 512 + (x 0).val := by rw [← hy]; rfl
      have hy1 : (y' 1).val = (x 1).val := by rw [← hy]; rfl
      show View.canon (Val := Elt Ideal) _ (ix2 _ (⟨(x 1).val, x1_lt⟩ : Fin 2304)) = _
      rw [hy]
      clear hy
      canon_tiles z hz using (cov_at _ 2 0 0 768 2304 _ _ rfl _ (by omega) (by omega) (by omega) (by omega))
      · omega
      · omega
      · open_payloads
        pointwise
    have hg : ∀ k : Fin 1280, gb (ix2 ⟨512 + (x 0).val, by omega⟩ k) = deqV (BitVec.ofNat 32 (grid0.coords t 1)) (iblk m c 0 t) (iblk m c 1 t) (iblk m c 2 t) (iblk m c 3 t) (ix2 ⟨512 + (x 0).val, by omega⟩ k) := by
      intro k
      have hx := x0_lt
      rw [← hgb]
      clear hgb hwb wb gb
      generalize hy : (ix2 ⟨512 + (x 0).val, by omega⟩ k : S768x1280.Idx) = y'
      have hy0 : (y' 0).val = 512 + (x 0).val := by rw [← hy]; rfl
      have hy1 : (y' 1).val = k.val := by rw [← hy]; rfl
      have hk := k.isLt
      clear hy
      canon_tiles z hz using (by
        obtain h | h | h | h | h | h | h | h | h | h : k.val / 128 = 9 ∨ k.val / 128 = 8 ∨ k.val / 128 = 7 ∨ k.val / 128 = 6 ∨ k.val / 128 = 5 ∨ k.val / 128 = 4 ∨ k.val / 128 = 3 ∨ k.val / 128 = 2 ∨ k.val / 128 = 1 ∨ k.val / 128 = 0 := by omega
        · exact cov_at _ 0 512 1152 256 128 _ _ rfl _ (by omega) (by omega) (by omega) (by omega)
        · exact cov_at _ 1 512 1024 256 128 _ _ rfl _ (by omega) (by omega) (by omega) (by omega)
        · exact cov_at _ 2 512 896 256 128 _ _ rfl _ (by omega) (by omega) (by omega) (by omega)
        · exact cov_at _ 3 512 768 256 128 _ _ rfl _ (by omega) (by omega) (by omega) (by omega)
        · exact cov_at _ 4 512 640 256 128 _ _ rfl _ (by omega) (by omega) (by omega) (by omega)
        · exact cov_at _ 5 512 512 256 128 _ _ rfl _ (by omega) (by omega) (by omega) (by omega)
        · exact cov_at _ 6 512 384 256 128 _ _ rfl _ (by omega) (by omega) (by omega) (by omega)
        · exact cov_at _ 7 512 256 256 128 _ _ rfl _ (by omega) (by omega) (by omega) (by omega)
        · exact cov_at _ 8 512 128 256 128 _ _ rfl _ (by omega) (by omega) (by omega) (by omega)
        · exact cov_at _ 9 512 0 256 128 _ _ rfl _ (by omega) (by omega) (by omega) (by omega))
      · open_payloads
        pointwise [select_grad, named_ln2]
        refine (deq_piece _ _ _ _ _ y' 9 ⟨512 + (z 0).val, by omega⟩ (fun k => ⟨1152 + k.val, by omega⟩) ⟨(z 1).val, z1_lt⟩ 1152#32 (by simp only; omega) (fun k => by simp) (by simp only; omega) rfl).symm
      · open_payloads
        pointwise [select_grad, named_ln2]
        refine (deq_piece _ _ _ _ _ y' 8 ⟨512 + (z 0).val, by omega⟩ (fun k => ⟨1024 + k.val, by omega⟩) ⟨(z 1).val, z1_lt⟩ 1024#32 (by simp only; omega) (fun k => by simp) (by simp only; omega) rfl).symm
      · open_payloads
        pointwise [select_grad, named_ln2]
        refine (deq_piece _ _ _ _ _ y' 7 ⟨512 + (z 0).val, by omega⟩ (fun k => ⟨896 + k.val, by omega⟩) ⟨(z 1).val, z1_lt⟩ 896#32 (by simp only; omega) (fun k => by simp) (by simp only; omega) rfl).symm
      · open_payloads
        pointwise [select_grad, named_ln2]
        refine (deq_piece _ _ _ _ _ y' 6 ⟨512 + (z 0).val, by omega⟩ (fun k => ⟨768 + k.val, by omega⟩) ⟨(z 1).val, z1_lt⟩ 768#32 (by simp only; omega) (fun k => by simp) (by simp only; omega) rfl).symm
      · open_payloads
        pointwise [select_grad, named_ln2]
        refine (deq_piece _ _ _ _ _ y' 5 ⟨512 + (z 0).val, by omega⟩ (fun k => ⟨640 + k.val, by omega⟩) ⟨(z 1).val, z1_lt⟩ 640#32 (by simp only; omega) (fun k => by simp) (by simp only; omega) rfl).symm
      · open_payloads
        pointwise [select_grad, named_ln2]
        refine (deq_piece _ _ _ _ _ y' 4 ⟨512 + (z 0).val, by omega⟩ (fun k => ⟨512 + k.val, by omega⟩) ⟨(z 1).val, z1_lt⟩ 512#32 (by simp only; omega) (fun k => by simp) (by simp only; omega) rfl).symm
      · open_payloads
        pointwise [select_grad, named_ln2]
        refine (deq_piece _ _ _ _ _ y' 3 ⟨512 + (z 0).val, by omega⟩ (fun k => ⟨384 + k.val, by omega⟩) ⟨(z 1).val, z1_lt⟩ 384#32 (by simp only; omega) (fun k => by simp) (by simp only; omega) rfl).symm
      · open_payloads
        pointwise [select_grad, named_ln2]
        refine (deq_piece _ _ _ _ _ y' 2 ⟨512 + (z 0).val, by omega⟩ (fun k => ⟨256 + k.val, by omega⟩) ⟨(z 1).val, z1_lt⟩ 256#32 (by simp only; omega) (fun k => by simp) (by simp only; omega) rfl).symm
      · open_payloads
        pointwise [select_grad, named_ln2]
        refine (deq_piece _ _ _ _ _ y' 1 ⟨512 + (z 0).val, by omega⟩ (fun k => ⟨128 + k.val, by omega⟩) ⟨(z 1).val, z1_lt⟩ 128#32 (by simp only; omega) (fun k => by simp) (by simp only; omega) rfl).symm
      · open_payloads
        pointwise [select_grad, named_ln2]
        refine (deq_piece _ _ _ _ _ y' 0 ⟨512 + (z 0).val, by omega⟩ (fun k => ⟨k.val, by omega⟩) ⟨(z 1).val, z1_lt⟩ 0#32 (by simp only; omega) (fun k => by simp) (by simp only; omega) rfl).symm
      · omega
      · omega
      · omega
      · omega
      · omega
      · omega
      · omega
      · omega
      · omega
      · omega
      · omega
      · omega
      · omega
      · omega
      · omega
      · omega
      · omega
      · omega
      · omega
      · omega
    have hw : ∀ (q : Fin 2304) (k : Fin 1280), wb (ix2 q k) = wV (iblk m c 4 t) (iblk m c 5 t) q k := by
      intro q k
      rw [← hwb]
      clear hgb hg hwb wb gb
      generalize hy : (ix2 q k : S2304x1280.Idx) = y'
      have hy0 : q.val = (y' 0).val := by rw [← hy]; rfl
      have hy1 : k.val = (y' 1).val := by rw [← hy]; rfl
      clear hy
      canon_tiles z hz
      all_goals
        open_payloads
        pointwise
        exact (w_piece _ _ q k _ _ _ (by first | omega | (simp only; omega) | (simp; omega)) (by first | omega | (simp only; omega) | (simp; omega)) (by first | omega | (simp; omega))).symm
    clear hgb hwb
    have hw1 : ∀ k : Fin 1280, wb (ix2 (x 1) k) = wV (iblk m c 4 t) (iblk m c 5 t) ⟨(x 1).val, x1_lt⟩ k := fun k => hw ⟨(x 1).val, x1_lt⟩ k
    have hy : y = ix2 (⟨512 + (x 0).val, by omega⟩ : Fin 768) (⟨(x 1).val, x1_lt⟩ : Fin 2304) :=
      funext fun a => Fin.ext (by revert a; exact Fin.forall_fin_two.mpr ⟨h0, h1⟩)
    rw [hy]
    unfold part
    simp only [hg, hw1, hz, zero_add]
    rfl
  · simp only [View.readCov_eq_canon' (Val := Elt Ideal)]
    generalize hac : (View.canon (Val := Elt Ideal) _ : S768x2304.Idx → Elt Ideal .f32) = ac
    generalize hgb : (View.canon (Val := Elt Ideal) _ : S768x1280.Idx → Elt Ideal .bf16) = gb
    generalize hwb : (View.canon (Val := Elt Ideal) _ : S2304x1280.Idx → Elt Ideal .bf16) = wb
    open_payloads
    pointwise
    have hz : (show EReal from ac (ix2 ⟨256 + (x 0).val, by omega⟩ (x 1))) = 0 := by
      show ac _ = _
      rw [← hac]
      clear hac hgb hwb wb gb ac
      generalize hy : (ix2 (⟨256 + (x 0).val, by omega⟩ : Fin 768) (⟨(x 1).val, x1_lt⟩ : Fin 2304) : S768x2304.Idx) = y'
      have hy0 : (y' 0).val = 256 + (x 0).val := by rw [← hy]; rfl
      have hy1 : (y' 1).val = (x 1).val := by rw [← hy]; rfl
      show View.canon (Val := Elt Ideal) _ (ix2 _ (⟨(x 1).val, x1_lt⟩ : Fin 2304)) = _
      rw [hy]
      clear hy
      canon_tiles z hz using (cov_at _ 1 0 0 768 2304 _ _ rfl _ (by omega) (by omega) (by omega) (by omega))
      · omega
      · open_payloads
        pointwise
    have hg : ∀ k : Fin 1280, gb (ix2 ⟨256 + (x 0).val, by omega⟩ k) = deqV (BitVec.ofNat 32 (grid0.coords t 1)) (iblk m c 0 t) (iblk m c 1 t) (iblk m c 2 t) (iblk m c 3 t) (ix2 ⟨256 + (x 0).val, by omega⟩ k) := by
      intro k
      have hx := x0_lt
      rw [← hgb]
      clear hgb hwb wb gb
      generalize hy : (ix2 ⟨256 + (x 0).val, by omega⟩ k : S768x1280.Idx) = y'
      have hy0 : (y' 0).val = 256 + (x 0).val := by rw [← hy]; rfl
      have hy1 : (y' 1).val = k.val := by rw [← hy]; rfl
      have hk := k.isLt
      clear hy
      canon_tiles z hz using (by
        obtain h | h | h | h | h | h | h | h | h | h : k.val / 128 = 9 ∨ k.val / 128 = 8 ∨ k.val / 128 = 7 ∨ k.val / 128 = 6 ∨ k.val / 128 = 5 ∨ k.val / 128 = 4 ∨ k.val / 128 = 3 ∨ k.val / 128 = 2 ∨ k.val / 128 = 1 ∨ k.val / 128 = 0 := by omega
        · exact cov_at _ 0 256 1152 256 128 _ _ rfl _ (by omega) (by omega) (by omega) (by omega)
        · exact cov_at _ 1 256 1024 256 128 _ _ rfl _ (by omega) (by omega) (by omega) (by omega)
        · exact cov_at _ 2 256 896 256 128 _ _ rfl _ (by omega) (by omega) (by omega) (by omega)
        · exact cov_at _ 3 256 768 256 128 _ _ rfl _ (by omega) (by omega) (by omega) (by omega)
        · exact cov_at _ 4 256 640 256 128 _ _ rfl _ (by omega) (by omega) (by omega) (by omega)
        · exact cov_at _ 5 256 512 256 128 _ _ rfl _ (by omega) (by omega) (by omega) (by omega)
        · exact cov_at _ 6 256 384 256 128 _ _ rfl _ (by omega) (by omega) (by omega) (by omega)
        · exact cov_at _ 7 256 256 256 128 _ _ rfl _ (by omega) (by omega) (by omega) (by omega)
        · exact cov_at _ 8 256 128 256 128 _ _ rfl _ (by omega) (by omega) (by omega) (by omega)
        · exact cov_at _ 9 256 0 256 128 _ _ rfl _ (by omega) (by omega) (by omega) (by omega))
      · open_payloads
        pointwise [select_grad, named_ln2]
        refine (deq_piece _ _ _ _ _ y' 9 ⟨256 + (z 0).val, by omega⟩ (fun k => ⟨1152 + k.val, by omega⟩) ⟨(z 1).val, z1_lt⟩ 1152#32 (by simp only; omega) (fun k => by simp) (by simp only; omega) rfl).symm
      · open_payloads
        pointwise [select_grad, named_ln2]
        refine (deq_piece _ _ _ _ _ y' 8 ⟨256 + (z 0).val, by omega⟩ (fun k => ⟨1024 + k.val, by omega⟩) ⟨(z 1).val, z1_lt⟩ 1024#32 (by simp only; omega) (fun k => by simp) (by simp only; omega) rfl).symm
      · open_payloads
        pointwise [select_grad, named_ln2]
        refine (deq_piece _ _ _ _ _ y' 7 ⟨256 + (z 0).val, by omega⟩ (fun k => ⟨896 + k.val, by omega⟩) ⟨(z 1).val, z1_lt⟩ 896#32 (by simp only; omega) (fun k => by simp) (by simp only; omega) rfl).symm
      · open_payloads
        pointwise [select_grad, named_ln2]
        refine (deq_piece _ _ _ _ _ y' 6 ⟨256 + (z 0).val, by omega⟩ (fun k => ⟨768 + k.val, by omega⟩) ⟨(z 1).val, z1_lt⟩ 768#32 (by simp only; omega) (fun k => by simp) (by simp only; omega) rfl).symm
      · open_payloads
        pointwise [select_grad, named_ln2]
        refine (deq_piece _ _ _ _ _ y' 5 ⟨256 + (z 0).val, by omega⟩ (fun k => ⟨640 + k.val, by omega⟩) ⟨(z 1).val, z1_lt⟩ 640#32 (by simp only; omega) (fun k => by simp) (by simp only; omega) rfl).symm
      · open_payloads
        pointwise [select_grad, named_ln2]
        refine (deq_piece _ _ _ _ _ y' 4 ⟨256 + (z 0).val, by omega⟩ (fun k => ⟨512 + k.val, by omega⟩) ⟨(z 1).val, z1_lt⟩ 512#32 (by simp only; omega) (fun k => by simp) (by simp only; omega) rfl).symm
      · open_payloads
        pointwise [select_grad, named_ln2]
        refine (deq_piece _ _ _ _ _ y' 3 ⟨256 + (z 0).val, by omega⟩ (fun k => ⟨384 + k.val, by omega⟩) ⟨(z 1).val, z1_lt⟩ 384#32 (by simp only; omega) (fun k => by simp) (by simp only; omega) rfl).symm
      · open_payloads
        pointwise [select_grad, named_ln2]
        refine (deq_piece _ _ _ _ _ y' 2 ⟨256 + (z 0).val, by omega⟩ (fun k => ⟨256 + k.val, by omega⟩) ⟨(z 1).val, z1_lt⟩ 256#32 (by simp only; omega) (fun k => by simp) (by simp only; omega) rfl).symm
      · open_payloads
        pointwise [select_grad, named_ln2]
        refine (deq_piece _ _ _ _ _ y' 1 ⟨256 + (z 0).val, by omega⟩ (fun k => ⟨128 + k.val, by omega⟩) ⟨(z 1).val, z1_lt⟩ 128#32 (by simp only; omega) (fun k => by simp) (by simp only; omega) rfl).symm
      · open_payloads
        pointwise [select_grad, named_ln2]
        refine (deq_piece _ _ _ _ _ y' 0 ⟨256 + (z 0).val, by omega⟩ (fun k => ⟨k.val, by omega⟩) ⟨(z 1).val, z1_lt⟩ 0#32 (by simp only; omega) (fun k => by simp) (by simp only; omega) rfl).symm
      · omega
      · omega
      · omega
      · omega
      · omega
      · omega
      · omega
      · omega
      · omega
      · omega
    have hw : ∀ (q : Fin 2304) (k : Fin 1280), wb (ix2 q k) = wV (iblk m c 4 t) (iblk m c 5 t) q k := by
      intro q k
      rw [← hwb]
      clear hgb hg hwb wb gb
      generalize hy : (ix2 q k : S2304x1280.Idx) = y'
      have hy0 : q.val = (y' 0).val := by rw [← hy]; rfl
      have hy1 : k.val = (y' 1).val := by rw [← hy]; rfl
      clear hy
      canon_tiles z hz
      all_goals
        open_payloads
        pointwise
        exact (w_piece _ _ q k _ _ _ (by first | omega | (simp only; omega) | (simp; omega)) (by first | omega | (simp only; omega) | (simp; omega)) (by first | omega | (simp; omega))).symm
    clear hgb hwb
    have hw1 : ∀ k : Fin 1280, wb (ix2 (x 1) k) = wV (iblk m c 4 t) (iblk m c 5 t) ⟨(x 1).val, x1_lt⟩ k := fun k => hw ⟨(x 1).val, x1_lt⟩ k
    have hy : y = ix2 (⟨256 + (x 0).val, by omega⟩ : Fin 768) (⟨(x 1).val, x1_lt⟩ : Fin 2304) :=
      funext fun a => Fin.ext (by revert a; exact Fin.forall_fin_two.mpr ⟨h0, h1⟩)
    rw [hy]
    unfold part
    simp only [hg, hw1, hz, zero_add]
    rfl
  · simp only [View.readCov_eq_canon' (Val := Elt Ideal)]
    generalize hac : (View.canon (Val := Elt Ideal) _ : S768x2304.Idx → Elt Ideal .f32) = ac
    generalize hgb : (View.canon (Val := Elt Ideal) _ : S768x1280.Idx → Elt Ideal .bf16) = gb
    generalize hwb : (View.canon (Val := Elt Ideal) _ : S2304x1280.Idx → Elt Ideal .bf16) = wb
    open_payloads
    pointwise
    have hz : (show EReal from ac (ix2 ⟨(x 0).val, by omega⟩ (x 1))) = 0 := by
      show ac _ = _
      rw [← hac]
      clear hac hgb hwb wb gb ac
      generalize hy : (ix2 (⟨(x 0).val, by omega⟩ : Fin 768) (⟨(x 1).val, x1_lt⟩ : Fin 2304) : S768x2304.Idx) = y'
      have hy0 : (y' 0).val = (x 0).val := by rw [← hy]; rfl
      have hy1 : (y' 1).val = (x 1).val := by rw [← hy]; rfl
      show View.canon (Val := Elt Ideal) _ (ix2 _ (⟨(x 1).val, x1_lt⟩ : Fin 2304)) = _
      rw [hy]
      clear hy
      canon_tiles z hz using (cov_at _ 0 0 0 768 2304 _ _ rfl _ (by omega) (by omega) (by omega) (by omega))
      · open_payloads
        pointwise
    have hg : ∀ k : Fin 1280, gb (ix2 ⟨(x 0).val, by omega⟩ k) = deqV (BitVec.ofNat 32 (grid0.coords t 1)) (iblk m c 0 t) (iblk m c 1 t) (iblk m c 2 t) (iblk m c 3 t) (ix2 ⟨(x 0).val, by omega⟩ k) := by
      intro k
      have hx := x0_lt
      rw [← hgb]
      clear hgb hwb wb gb
      generalize hy : (ix2 ⟨(x 0).val, by omega⟩ k : S768x1280.Idx) = y'
      have hy0 : (y' 0).val = 0 + (x 0).val := by rw [← hy]; simp
      have hy1 : (y' 1).val = k.val := by rw [← hy]; rfl
      have hk := k.isLt
      clear hy
      canon_tiles z hz using (by
        obtain h | h | h | h | h | h | h | h | h | h : k.val / 128 = 9 ∨ k.val / 128 = 8 ∨ k.val / 128 = 7 ∨ k.val / 128 = 6 ∨ k.val / 128 = 5 ∨ k.val / 128 = 4 ∨ k.val / 128 = 3 ∨ k.val / 128 = 2 ∨ k.val / 128 = 1 ∨ k.val / 128 = 0 := by omega
        · exact cov_at _ 0 0 1152 256 128 _ _ rfl _ (by omega) (by omega) (by omega) (by omega)
        · exact cov_at _ 1 0 1024 256 128 _ _ rfl _ (by omega) (by omega) (by omega) (by omega)
        · exact cov_at _ 2 0 896 256 128 _ _ rfl _ (by omega) (by omega) (by omega) (by omega)
        · exact cov_at _ 3 0 768 256 128 _ _ rfl _ (by omega) (by omega) (by omega) (by omega)
        · exact cov_at _ 4 0 640 256 128 _ _ rfl _ (by omega) (by omega) (by omega) (by omega)
        · exact cov_at _ 5 0 512 256 128 _ _ rfl _ (by omega) (by omega) (by omega) (by omega)
        · exact cov_at _ 6 0 384 256 128 _ _ rfl _ (by omega) (by omega) (by omega) (by omega)
        · exact cov_at _ 7 0 256 256 128 _ _ rfl _ (by omega) (by omega) (by omega) (by omega)
        · exact cov_at _ 8 0 128 256 128 _ _ rfl _ (by omega) (by omega) (by omega) (by omega)
        · exact cov_at _ 9 0 0 256 128 _ _ rfl _ (by omega) (by omega) (by omega) (by omega))
      · open_payloads
        pointwise [select_grad, named_ln2]
        refine (deq_piece _ _ _ _ _ y' 9 ⟨(z 0).val, by omega⟩ (fun k => ⟨1152 + k.val, by omega⟩) ⟨(z 1).val, z1_lt⟩ 1152#32 (by simp only; omega) (fun k => by simp) (by simp only; omega) rfl).symm
      · open_payloads
        pointwise [select_grad, named_ln2]
        refine (deq_piece _ _ _ _ _ y' 8 ⟨(z 0).val, by omega⟩ (fun k => ⟨1024 + k.val, by omega⟩) ⟨(z 1).val, z1_lt⟩ 1024#32 (by simp only; omega) (fun k => by simp) (by simp only; omega) rfl).symm
      · open_payloads
        pointwise [select_grad, named_ln2]
        refine (deq_piece _ _ _ _ _ y' 7 ⟨(z 0).val, by omega⟩ (fun k => ⟨896 + k.val, by omega⟩) ⟨(z 1).val, z1_lt⟩ 896#32 (by simp only; omega) (fun k => by simp) (by simp only; omega) rfl).symm
      · open_payloads
        pointwise [select_grad, named_ln2]
        refine (deq_piece _ _ _ _ _ y' 6 ⟨(z 0).val, by omega⟩ (fun k => ⟨768 + k.val, by omega⟩) ⟨(z 1).val, z1_lt⟩ 768#32 (by simp only; omega) (fun k => by simp) (by simp only; omega) rfl).symm
      · open_payloads
        pointwise [select_grad, named_ln2]
        refine (deq_piece _ _ _ _ _ y' 5 ⟨(z 0).val, by omega⟩ (fun k => ⟨640 + k.val, by omega⟩) ⟨(z 1).val, z1_lt⟩ 640#32 (by simp only; omega) (fun k => by simp) (by simp only; omega) rfl).symm
      · open_payloads
        pointwise [select_grad, named_ln2]
        refine (deq_piece _ _ _ _ _ y' 4 ⟨(z 0).val, by omega⟩ (fun k => ⟨512 + k.val, by omega⟩) ⟨(z 1).val, z1_lt⟩ 512#32 (by simp only; omega) (fun k => by simp) (by simp only; omega) rfl).symm
      · open_payloads
        pointwise [select_grad, named_ln2]
        refine (deq_piece _ _ _ _ _ y' 3 ⟨(z 0).val, by omega⟩ (fun k => ⟨384 + k.val, by omega⟩) ⟨(z 1).val, z1_lt⟩ 384#32 (by simp only; omega) (fun k => by simp) (by simp only; omega) rfl).symm
      · open_payloads
        pointwise [select_grad, named_ln2]
        refine (deq_piece _ _ _ _ _ y' 2 ⟨(z 0).val, by omega⟩ (fun k => ⟨256 + k.val, by omega⟩) ⟨(z 1).val, z1_lt⟩ 256#32 (by simp only; omega) (fun k => by simp) (by simp only; omega) rfl).symm
      · open_payloads
        pointwise [select_grad, named_ln2]
        refine (deq_piece _ _ _ _ _ y' 1 ⟨(z 0).val, by omega⟩ (fun k => ⟨128 + k.val, by omega⟩) ⟨(z 1).val, z1_lt⟩ 128#32 (by simp only; omega) (fun k => by simp) (by simp only; omega) rfl).symm
      · open_payloads
        pointwise [select_grad, named_ln2]
        refine (deq_piece _ _ _ _ _ y' 0 ⟨(z 0).val, by omega⟩ (fun k => ⟨k.val, by omega⟩) ⟨(z 1).val, z1_lt⟩ 0#32 (by simp only; omega) (fun k => by simp) (by simp only; omega) rfl).symm
    have hw : ∀ (q : Fin 2304) (k : Fin 1280), wb (ix2 q k) = wV (iblk m c 4 t) (iblk m c 5 t) q k := by
      intro q k
      rw [← hwb]
      clear hgb hg hwb wb gb
      generalize hy : (ix2 q k : S2304x1280.Idx) = y'
      have hy0 : q.val = (y' 0).val := by rw [← hy]; rfl
      have hy1 : k.val = (y' 1).val := by rw [← hy]; rfl
      clear hy
      canon_tiles z hz
      all_goals
        open_payloads
        pointwise
        exact (w_piece _ _ q k _ _ _ (by first | omega | (simp only; omega) | (simp; omega)) (by first | omega | (simp only; omega) | (simp; omega)) (by first | omega | (simp; omega))).symm
    clear hgb hwb
    have hw1 : ∀ k : Fin 1280, wb (ix2 (x 1) k) = wV (iblk m c 4 t) (iblk m c 5 t) ⟨(x 1).val, x1_lt⟩ k := fun k => hw ⟨(x 1).val, x1_lt⟩ k
    have hy : y = ix2 (⟨(x 0).val, by omega⟩ : Fin 768) (⟨(x 1).val, x1_lt⟩ : Fin 2304) :=
      funext fun a => Fin.ext (by revert a; exact Fin.forall_fin_two.mpr ⟨h0, h1⟩)
    rw [hy]
    unfold part
    simp only [hg, hw1, hz, zero_add]
    rfl

end Cert.BwdIdeal.Gen
-- ==== Proof.Bwd.AccB.lean ====
/- The accumulator after a middle vocabulary step: what it held plus the tile's partial product. -/
module

public import proofs.«01_k».proof.Proof.Bwd.Tile
public import Idealize.ShloMosaic.Lib.Pipeline.ValueKit
public import Idealize.ShloMosaic.Lib.Pipeline.ReadBack

@[expose] public section

set_option maxRecDepth 16384

noncomputable section

namespace Cert.BwdIdeal.Gen

open Idealize.ShloMosaic Idealize.ShloMosaic.TcCoe Idealize.SL.Sem Cert.BwdIdeal Cert.Quant

variable (m : (ℓ : Loc nD τ sig) → Buf (Elt Ideal) ℓ)

set_option maxHeartbeats 1000000 in
/-- The accumulator after a middle step. -/
theorem acc_B (c : Dev nD) (t : Fin cfg0.N) (h0 : ¬t.val % 50 = 0) (h1 : ¬t.val % 50 = 49) (y) :
    (outsAt0 (F := Ideal) m c t.val t.isLt).2.2 y = (outsAt0 (F := Ideal) m c (t.val - 1) (by omega)).2.2 y + part (BitVec.ofNat 32 (grid0.coords t 1)) (iblk m c 0 t) (iblk m c 1 t) (iblk m c 2 t) (iblk m c 3 t) (iblk m c 4 t) (iblk m c 5 t) y := by
  rw [outsAt0_B m c t h0 h1]
  frame_out
  canon_tiles x h
  · rw [View.readCov_eq_canon' (Val := Elt Ideal), View.readCov_eq_canon' (Val := Elt Ideal)]
    generalize hgb : View.canon (Val := Elt Ideal) _ = gb
    generalize hwb : View.canon (Val := Elt Ideal) _ = wb
    open_payloads
    pointwise
    have hg : ∀ k : Fin 1280, gb (ix2 ⟨512 + (x 0).val, by omega⟩ k) = deqV (BitVec.ofNat 32 (grid0.coords t 1)) (iblk m c 0 t) (iblk m c 1 t) (iblk m c 2 t) (iblk m c 3 t) (ix2 ⟨512 + (x 0).val, by omega⟩ k) := by
      intro k
      have hx := x0_lt
      rw [← hgb]
      clear hgb hwb wb gb
      generalize hy : (ix2 ⟨512 + (x 0).val, by omega⟩ k : S768x1280.Idx) = y'
      have hy0 : (y' 0).val = 512 + (x 0).val := by rw [← hy]; rfl
      have hy1 : (y' 1).val = k.val := by rw [← hy]; rfl
      have hk := k.isLt
      clear hy
      canon_tiles z hz using (by
        obtain h | h | h | h | h | h | h | h | h | h : k.val / 128 = 9 ∨ k.val / 128 = 8 ∨ k.val / 128 = 7 ∨ k.val / 128 = 6 ∨ k.val / 128 = 5 ∨ k.val / 128 = 4 ∨ k.val / 128 = 3 ∨ k.val / 128 = 2 ∨ k.val / 128 = 1 ∨ k.val / 128 = 0 := by omega
        · exact cov_at _ 0 512 1152 256 128 _ _ rfl _ (by omega) (by omega) (by omega) (by omega)
        · exact cov_at _ 1 512 1024 256 128 _ _ rfl _ (by omega) (by omega) (by omega) (by omega)
        · exact cov_at _ 2 512 896 256 128 _ _ rfl _ (by omega) (by omega) (by omega) (by omega)
        · exact cov_at _ 3 512 768 256 128 _ _ rfl _ (by omega) (by omega) (by omega) (by omega)
        · exact cov_at _ 4 512 640 256 128 _ _ rfl _ (by omega) (by omega) (by omega) (by omega)
        · exact cov_at _ 5 512 512 256 128 _ _ rfl _ (by omega) (by omega) (by omega) (by omega)
        · exact cov_at _ 6 512 384 256 128 _ _ rfl _ (by omega) (by omega) (by omega) (by omega)
        · exact cov_at _ 7 512 256 256 128 _ _ rfl _ (by omega) (by omega) (by omega) (by omega)
        · exact cov_at _ 8 512 128 256 128 _ _ rfl _ (by omega) (by omega) (by omega) (by omega)
        · exact cov_at _ 9 512 0 256 128 _ _ rfl _ (by omega) (by omega) (by omega) (by omega))
      · open_payloads
        pointwise [select_grad, named_ln2]
        refine (deq_piece _ _ _ _ _ y' 9 ⟨512 + (z 0).val, by omega⟩ (fun k => ⟨1152 + k.val, by omega⟩) ⟨(z 1).val, z1_lt⟩ 1152#32 (by simp only; omega) (fun k => by simp) (by simp only; omega) rfl).symm
      · open_payloads
        pointwise [select_grad, named_ln2]
        refine (deq_piece _ _ _ _ _ y' 8 ⟨512 + (z 0).val, by omega⟩ (fun k => ⟨1024 + k.val, by omega⟩) ⟨(z 1).val, z1_lt⟩ 1024#32 (by simp only; omega) (fun k => by simp) (by simp only; omega) rfl).symm
      · open_payloads
        pointwise [select_grad, named_ln2]
        refine (deq_piece _ _ _ _ _ y' 7 ⟨512 + (z 0).val, by omega⟩ (fun k => ⟨896 + k.val, by omega⟩) ⟨(z 1).val, z1_lt⟩ 896#32 (by simp only; omega) (fun k => by simp) (by simp only; omega) rfl).symm
      · open_payloads
        pointwise [select_grad, named_ln2]
        refine (deq_piece _ _ _ _ _ y' 6 ⟨512 + (z 0).val, by omega⟩ (fun k => ⟨768 + k.val, by omega⟩) ⟨(z 1).val, z1_lt⟩ 768#32 (by simp only; omega) (fun k => by simp) (by simp only; omega) rfl).symm
      · open_payloads
        pointwise [select_grad, named_ln2]
        refine (deq_piece _ _ _ _ _ y' 5 ⟨512 + (z 0).val, by omega⟩ (fun k => ⟨640 + k.val, by omega⟩) ⟨(z 1).val, z1_lt⟩ 640#32 (by simp only; omega) (fun k => by simp) (by simp only; omega) rfl).symm
      · open_payloads
        pointwise [select_grad, named_ln2]
        refine (deq_piece _ _ _ _ _ y' 4 ⟨512 + (z 0).val, by omega⟩ (fun k => ⟨512 + k.val, by omega⟩) ⟨(z 1).val, z1_lt⟩ 512#32 (by simp only; omega) (fun k => by simp) (by simp only; omega) rfl).symm
      · open_payloads
        pointwise [select_grad, named_ln2]
        refine (deq_piece _ _ _ _ _ y' 3 ⟨512 + (z 0).val, by omega⟩ (fun k => ⟨384 + k.val, by omega⟩) ⟨(z 1).val, z1_lt⟩ 384#32 (by simp only; omega) (fun k => by simp) (by simp only; omega) rfl).symm
      · open_payloads
        pointwise [select_grad, named_ln2]
        refine (deq_piece _ _ _ _ _ y' 2 ⟨512 + (z 0).val, by omega⟩ (fun k => ⟨256 + k.val, by omega⟩) ⟨(z 1).val, z1_lt⟩ 256#32 (by simp only; omega) (fun k => by simp) (by simp only; omega) rfl).symm
      · open_payloads
        pointwise [select_grad, named_ln2]
        refine (deq_piece _ _ _ _ _ y' 1 ⟨512 + (z 0).val, by omega⟩ (fun k => ⟨128 + k.val, by omega⟩) ⟨(z 1).val, z1_lt⟩ 128#32 (by simp only; omega) (fun k => by simp) (by simp only; omega) rfl).symm
      · open_payloads
        pointwise [select_grad, named_ln2]
        refine (deq_piece _ _ _ _ _ y' 0 ⟨512 + (z 0).val, by omega⟩ (fun k => ⟨k.val, by omega⟩) ⟨(z 1).val, z1_lt⟩ 0#32 (by simp only; omega) (fun k => by simp) (by simp only; omega) rfl).symm
      · omega
      · omega
      · omega
      · omega
      · omega
      · omega
      · omega
      · omega
      · omega
      · omega
      · omega
      · omega
      · omega
      · omega
      · omega
      · omega
      · omega
      · omega
      · omega
      · omega
    have hw : ∀ (q : Fin 2304) (k : Fin 1280), wb (ix2 q k) = wV (iblk m c 4 t) (iblk m c 5 t) q k := by
      intro q k
      rw [← hwb]
      clear hgb hg hwb wb gb
      generalize hy : (ix2 q k : S2304x1280.Idx) = y'
      have hy0 : q.val = (y' 0).val := by rw [← hy]; rfl
      have hy1 : k.val = (y' 1).val := by rw [← hy]; rfl
      clear hy
      canon_tiles z hz
      all_goals
        open_payloads
        pointwise
        exact (w_piece _ _ q k _ _ _ (by first | omega | (simp only; omega) | (simp; omega)) (by first | omega | (simp only; omega) | (simp; omega)) (by first | omega | (simp; omega))).symm
    clear hgb hwb
    have hw1 : ∀ k : Fin 1280, wb (ix2 (x 1) k) = wV (iblk m c 4 t) (iblk m c 5 t) ⟨(x 1).val, x1_lt⟩ k := fun k => hw ⟨(x 1).val, x1_lt⟩ k
    have hy : y = ix2 (⟨512 + (x 0).val, by omega⟩ : Fin 768) (⟨(x 1).val, x1_lt⟩ : Fin 2304) :=
      funext fun a => Fin.ext (by revert a; exact Fin.forall_fin_two.mpr ⟨h0, h1⟩)
    rw [hy]
    unfold part
    simp only [hg, hw1, read_unread_whole]
    rfl
  · rw [View.readCov_eq_canon' (Val := Elt Ideal), View.readCov_eq_canon' (Val := Elt Ideal)]
    generalize hgb : View.canon (Val := Elt Ideal) _ = gb
    generalize hwb : View.canon (Val := Elt Ideal) _ = wb
    open_payloads
    pointwise
    have hg : ∀ k : Fin 1280, gb (ix2 ⟨256 + (x 0).val, by omega⟩ k) = deqV (BitVec.ofNat 32 (grid0.coords t 1)) (iblk m c 0 t) (iblk m c 1 t) (iblk m c 2 t) (iblk m c 3 t) (ix2 ⟨256 + (x 0).val, by omega⟩ k) := by
      intro k
      have hx := x0_lt
      rw [← hgb]
      clear hgb hwb wb gb
      generalize hy : (ix2 ⟨256 + (x 0).val, by omega⟩ k : S768x1280.Idx) = y'
      have hy0 : (y' 0).val = 256 + (x 0).val := by rw [← hy]; rfl
      have hy1 : (y' 1).val = k.val := by rw [← hy]; rfl
      have hk := k.isLt
      clear hy
      canon_tiles z hz using (by
        obtain h | h | h | h | h | h | h | h | h | h : k.val / 128 = 9 ∨ k.val / 128 = 8 ∨ k.val / 128 = 7 ∨ k.val / 128 = 6 ∨ k.val / 128 = 5 ∨ k.val / 128 = 4 ∨ k.val / 128 = 3 ∨ k.val / 128 = 2 ∨ k.val / 128 = 1 ∨ k.val / 128 = 0 := by omega
        · exact cov_at _ 0 256 1152 256 128 _ _ rfl _ (by omega) (by omega) (by omega) (by omega)
        · exact cov_at _ 1 256 1024 256 128 _ _ rfl _ (by omega) (by omega) (by omega) (by omega)
        · exact cov_at _ 2 256 896 256 128 _ _ rfl _ (by omega) (by omega) (by omega) (by omega)
        · exact cov_at _ 3 256 768 256 128 _ _ rfl _ (by omega) (by omega) (by omega) (by omega)
        · exact cov_at _ 4 256 640 256 128 _ _ rfl _ (by omega) (by omega) (by omega) (by omega)
        · exact cov_at _ 5 256 512 256 128 _ _ rfl _ (by omega) (by omega) (by omega) (by omega)
        · exact cov_at _ 6 256 384 256 128 _ _ rfl _ (by omega) (by omega) (by omega) (by omega)
        · exact cov_at _ 7 256 256 256 128 _ _ rfl _ (by omega) (by omega) (by omega) (by omega)
        · exact cov_at _ 8 256 128 256 128 _ _ rfl _ (by omega) (by omega) (by omega) (by omega)
        · exact cov_at _ 9 256 0 256 128 _ _ rfl _ (by omega) (by omega) (by omega) (by omega))
      · open_payloads
        pointwise [select_grad, named_ln2]
        refine (deq_piece _ _ _ _ _ y' 9 ⟨256 + (z 0).val, by omega⟩ (fun k => ⟨1152 + k.val, by omega⟩) ⟨(z 1).val, z1_lt⟩ 1152#32 (by simp only; omega) (fun k => by simp) (by simp only; omega) rfl).symm
      · open_payloads
        pointwise [select_grad, named_ln2]
        refine (deq_piece _ _ _ _ _ y' 8 ⟨256 + (z 0).val, by omega⟩ (fun k => ⟨1024 + k.val, by omega⟩) ⟨(z 1).val, z1_lt⟩ 1024#32 (by simp only; omega) (fun k => by simp) (by simp only; omega) rfl).symm
      · open_payloads
        pointwise [select_grad, named_ln2]
        refine (deq_piece _ _ _ _ _ y' 7 ⟨256 + (z 0).val, by omega⟩ (fun k => ⟨896 + k.val, by omega⟩) ⟨(z 1).val, z1_lt⟩ 896#32 (by simp only; omega) (fun k => by simp) (by simp only; omega) rfl).symm
      · open_payloads
        pointwise [select_grad, named_ln2]
        refine (deq_piece _ _ _ _ _ y' 6 ⟨256 + (z 0).val, by omega⟩ (fun k => ⟨768 + k.val, by omega⟩) ⟨(z 1).val, z1_lt⟩ 768#32 (by simp only; omega) (fun k => by simp) (by simp only; omega) rfl).symm
      · open_payloads
        pointwise [select_grad, named_ln2]
        refine (deq_piece _ _ _ _ _ y' 5 ⟨256 + (z 0).val, by omega⟩ (fun k => ⟨640 + k.val, by omega⟩) ⟨(z 1).val, z1_lt⟩ 640#32 (by simp only; omega) (fun k => by simp) (by simp only; omega) rfl).symm
      · open_payloads
        pointwise [select_grad, named_ln2]
        refine (deq_piece _ _ _ _ _ y' 4 ⟨256 + (z 0).val, by omega⟩ (fun k => ⟨512 + k.val, by omega⟩) ⟨(z 1).val, z1_lt⟩ 512#32 (by simp only; omega) (fun k => by simp) (by simp only; omega) rfl).symm
      · open_payloads
        pointwise [select_grad, named_ln2]
        refine (deq_piece _ _ _ _ _ y' 3 ⟨256 + (z 0).val, by omega⟩ (fun k => ⟨384 + k.val, by omega⟩) ⟨(z 1).val, z1_lt⟩ 384#32 (by simp only; omega) (fun k => by simp) (by simp only; omega) rfl).symm
      · open_payloads
        pointwise [select_grad, named_ln2]
        refine (deq_piece _ _ _ _ _ y' 2 ⟨256 + (z 0).val, by omega⟩ (fun k => ⟨256 + k.val, by omega⟩) ⟨(z 1).val, z1_lt⟩ 256#32 (by simp only; omega) (fun k => by simp) (by simp only; omega) rfl).symm
      · open_payloads
        pointwise [select_grad, named_ln2]
        refine (deq_piece _ _ _ _ _ y' 1 ⟨256 + (z 0).val, by omega⟩ (fun k => ⟨128 + k.val, by omega⟩) ⟨(z 1).val, z1_lt⟩ 128#32 (by simp only; omega) (fun k => by simp) (by simp only; omega) rfl).symm
      · open_payloads
        pointwise [select_grad, named_ln2]
        refine (deq_piece _ _ _ _ _ y' 0 ⟨256 + (z 0).val, by omega⟩ (fun k => ⟨k.val, by omega⟩) ⟨(z 1).val, z1_lt⟩ 0#32 (by simp only; omega) (fun k => by simp) (by simp only; omega) rfl).symm
      · omega
      · omega
      · omega
      · omega
      · omega
      · omega
      · omega
      · omega
      · omega
      · omega
    have hw : ∀ (q : Fin 2304) (k : Fin 1280), wb (ix2 q k) = wV (iblk m c 4 t) (iblk m c 5 t) q k := by
      intro q k
      rw [← hwb]
      clear hgb hg hwb wb gb
      generalize hy : (ix2 q k : S2304x1280.Idx) = y'
      have hy0 : q.val = (y' 0).val := by rw [← hy]; rfl
      have hy1 : k.val = (y' 1).val := by rw [← hy]; rfl
      clear hy
      canon_tiles z hz
      all_goals
        open_payloads
        pointwise
        exact (w_piece _ _ q k _ _ _ (by first | omega | (simp only; omega) | (simp; omega)) (by first | omega | (simp only; omega) | (simp; omega)) (by first | omega | (simp; omega))).symm
    clear hgb hwb
    have hw1 : ∀ k : Fin 1280, wb (ix2 (x 1) k) = wV (iblk m c 4 t) (iblk m c 5 t) ⟨(x 1).val, x1_lt⟩ k := fun k => hw ⟨(x 1).val, x1_lt⟩ k
    have hy : y = ix2 (⟨256 + (x 0).val, by omega⟩ : Fin 768) (⟨(x 1).val, x1_lt⟩ : Fin 2304) :=
      funext fun a => Fin.ext (by revert a; exact Fin.forall_fin_two.mpr ⟨h0, h1⟩)
    rw [hy]
    unfold part
    simp only [hg, hw1, read_unread_whole]
    rfl
  · rw [View.readCov_eq_canon' (Val := Elt Ideal), View.readCov_eq_canon' (Val := Elt Ideal)]
    generalize hgb : View.canon (Val := Elt Ideal) _ = gb
    generalize hwb : View.canon (Val := Elt Ideal) _ = wb
    open_payloads
    pointwise
    have hg : ∀ k : Fin 1280, gb (ix2 ⟨(x 0).val, by omega⟩ k) = deqV (BitVec.ofNat 32 (grid0.coords t 1)) (iblk m c 0 t) (iblk m c 1 t) (iblk m c 2 t) (iblk m c 3 t) (ix2 ⟨(x 0).val, by omega⟩ k) := by
      intro k
      have hx := x0_lt
      rw [← hgb]
      clear hgb hwb wb gb
      generalize hy : (ix2 ⟨(x 0).val, by omega⟩ k : S768x1280.Idx) = y'
      have hy0 : (y' 0).val = 0 + (x 0).val := by rw [← hy]; simp
      have hy1 : (y' 1).val = k.val := by rw [← hy]; rfl
      have hk := k.isLt
      clear hy
      canon_tiles z hz using (by
        obtain h | h | h | h | h | h | h | h | h | h : k.val / 128 = 9 ∨ k.val / 128 = 8 ∨ k.val / 128 = 7 ∨ k.val / 128 = 6 ∨ k.val / 128 = 5 ∨ k.val / 128 = 4 ∨ k.val / 128 = 3 ∨ k.val / 128 = 2 ∨ k.val / 128 = 1 ∨ k.val / 128 = 0 := by omega
        · exact cov_at _ 0 0 1152 256 128 _ _ rfl _ (by omega) (by omega) (by omega) (by omega)
        · exact cov_at _ 1 0 1024 256 128 _ _ rfl _ (by omega) (by omega) (by omega) (by omega)
        · exact cov_at _ 2 0 896 256 128 _ _ rfl _ (by omega) (by omega) (by omega) (by omega)
        · exact cov_at _ 3 0 768 256 128 _ _ rfl _ (by omega) (by omega) (by omega) (by omega)
        · exact cov_at _ 4 0 640 256 128 _ _ rfl _ (by omega) (by omega) (by omega) (by omega)
        · exact cov_at _ 5 0 512 256 128 _ _ rfl _ (by omega) (by omega) (by omega) (by omega)
        · exact cov_at _ 6 0 384 256 128 _ _ rfl _ (by omega) (by omega) (by omega) (by omega)
        · exact cov_at _ 7 0 256 256 128 _ _ rfl _ (by omega) (by omega) (by omega) (by omega)
        · exact cov_at _ 8 0 128 256 128 _ _ rfl _ (by omega) (by omega) (by omega) (by omega)
        · exact cov_at _ 9 0 0 256 128 _ _ rfl _ (by omega) (by omega) (by omega) (by omega))
      · open_payloads
        pointwise [select_grad, named_ln2]
        refine (deq_piece _ _ _ _ _ y' 9 ⟨(z 0).val, by omega⟩ (fun k => ⟨1152 + k.val, by omega⟩) ⟨(z 1).val, z1_lt⟩ 1152#32 (by simp only; omega) (fun k => by simp) (by simp only; omega) rfl).symm
      · open_payloads
        pointwise [select_grad, named_ln2]
        refine (deq_piece _ _ _ _ _ y' 8 ⟨(z 0).val, by omega⟩ (fun k => ⟨1024 + k.val, by omega⟩) ⟨(z 1).val, z1_lt⟩ 1024#32 (by simp only; omega) (fun k => by simp) (by simp only; omega) rfl).symm
      · open_payloads
        pointwise [select_grad, named_ln2]
        refine (deq_piece _ _ _ _ _ y' 7 ⟨(z 0).val, by omega⟩ (fun k => ⟨896 + k.val, by omega⟩) ⟨(z 1).val, z1_lt⟩ 896#32 (by simp only; omega) (fun k => by simp) (by simp only; omega) rfl).symm
      · open_payloads
        pointwise [select_grad, named_ln2]
        refine (deq_piece _ _ _ _ _ y' 6 ⟨(z 0).val, by omega⟩ (fun k => ⟨768 + k.val, by omega⟩) ⟨(z 1).val, z1_lt⟩ 768#32 (by simp only; omega) (fun k => by simp) (by simp only; omega) rfl).symm
      · open_payloads
        pointwise [select_grad, named_ln2]
        refine (deq_piece _ _ _ _ _ y' 5 ⟨(z 0).val, by omega⟩ (fun k => ⟨640 + k.val, by omega⟩) ⟨(z 1).val, z1_lt⟩ 640#32 (by simp only; omega) (fun k => by simp) (by simp only; omega) rfl).symm
      · open_payloads
        pointwise [select_grad, named_ln2]
        refine (deq_piece _ _ _ _ _ y' 4 ⟨(z 0).val, by omega⟩ (fun k => ⟨512 + k.val, by omega⟩) ⟨(z 1).val, z1_lt⟩ 512#32 (by simp only; omega) (fun k => by simp) (by simp only; omega) rfl).symm
      · open_payloads
        pointwise [select_grad, named_ln2]
        refine (deq_piece _ _ _ _ _ y' 3 ⟨(z 0).val, by omega⟩ (fun k => ⟨384 + k.val, by omega⟩) ⟨(z 1).val, z1_lt⟩ 384#32 (by simp only; omega) (fun k => by simp) (by simp only; omega) rfl).symm
      · open_payloads
        pointwise [select_grad, named_ln2]
        refine (deq_piece _ _ _ _ _ y' 2 ⟨(z 0).val, by omega⟩ (fun k => ⟨256 + k.val, by omega⟩) ⟨(z 1).val, z1_lt⟩ 256#32 (by simp only; omega) (fun k => by simp) (by simp only; omega) rfl).symm
      · open_payloads
        pointwise [select_grad, named_ln2]
        refine (deq_piece _ _ _ _ _ y' 1 ⟨(z 0).val, by omega⟩ (fun k => ⟨128 + k.val, by omega⟩) ⟨(z 1).val, z1_lt⟩ 128#32 (by simp only; omega) (fun k => by simp) (by simp only; omega) rfl).symm
      · open_payloads
        pointwise [select_grad, named_ln2]
        refine (deq_piece _ _ _ _ _ y' 0 ⟨(z 0).val, by omega⟩ (fun k => ⟨k.val, by omega⟩) ⟨(z 1).val, z1_lt⟩ 0#32 (by simp only; omega) (fun k => by simp) (by simp only; omega) rfl).symm
    have hw : ∀ (q : Fin 2304) (k : Fin 1280), wb (ix2 q k) = wV (iblk m c 4 t) (iblk m c 5 t) q k := by
      intro q k
      rw [← hwb]
      clear hgb hg hwb wb gb
      generalize hy : (ix2 q k : S2304x1280.Idx) = y'
      have hy0 : q.val = (y' 0).val := by rw [← hy]; rfl
      have hy1 : k.val = (y' 1).val := by rw [← hy]; rfl
      clear hy
      canon_tiles z hz
      all_goals
        open_payloads
        pointwise
        exact (w_piece _ _ q k _ _ _ (by first | omega | (simp only; omega) | (simp; omega)) (by first | omega | (simp only; omega) | (simp; omega)) (by first | omega | (simp; omega))).symm
    clear hgb hwb
    have hw1 : ∀ k : Fin 1280, wb (ix2 (x 1) k) = wV (iblk m c 4 t) (iblk m c 5 t) ⟨(x 1).val, x1_lt⟩ k := fun k => hw ⟨(x 1).val, x1_lt⟩ k
    have hy : y = ix2 (⟨(x 0).val, by omega⟩ : Fin 768) (⟨(x 1).val, x1_lt⟩ : Fin 2304) :=
      funext fun a => Fin.ext (by revert a; exact Fin.forall_fin_two.mpr ⟨h0, h1⟩)
    rw [hy]
    unfold part
    simp only [hg, hw1, read_unread_whole]
    rfl

end Cert.BwdIdeal.Gen
-- ==== Proof.Bwd.AccC.lean ====
/- The accumulator and the result tile after the last vocabulary step: what it held plus the tile's partial product. -/
module

public import proofs.«01_k».proof.Proof.Bwd.Tile
public import Idealize.ShloMosaic.Lib.Pipeline.ValueKit
public import Idealize.ShloMosaic.Lib.Pipeline.ReadBack

@[expose] public section

set_option maxRecDepth 16384

noncomputable section

namespace Cert.BwdIdeal.Gen

open Idealize.ShloMosaic Idealize.ShloMosaic.TcCoe Idealize.SL.Sem Cert.BwdIdeal Cert.Quant

variable (m : (ℓ : Loc nD τ sig) → Buf (Elt Ideal) ℓ)

set_option maxHeartbeats 1000000 in
/-- The accumulator after a last step. -/
theorem acc_C (c : Dev nD) (t : Fin cfg0.N) (h0 : ¬t.val % 50 = 0) (h1 : t.val % 50 = 49) (y) :
    (outsAt0 (F := Ideal) m c t.val t.isLt).2.2 y = (outsAt0 (F := Ideal) m c (t.val - 1) (by omega)).2.2 y + part (BitVec.ofNat 32 (grid0.coords t 1)) (iblk m c 0 t) (iblk m c 1 t) (iblk m c 2 t) (iblk m c 3 t) (iblk m c 4 t) (iblk m c 5 t) y := by
  rw [outsAt0_C m c t h0 h1]
  frame_out
  canon_tiles x h
  · rw [View.readCov_eq_canon' (Val := Elt Ideal), View.readCov_eq_canon' (Val := Elt Ideal)]
    generalize hgb : View.canon (Val := Elt Ideal) _ = gb
    generalize hwb : View.canon (Val := Elt Ideal) _ = wb
    open_payloads
    pointwise
    have hg : ∀ k : Fin 1280, gb (ix2 ⟨512 + (x 0).val, by omega⟩ k) = deqV (BitVec.ofNat 32 (grid0.coords t 1)) (iblk m c 0 t) (iblk m c 1 t) (iblk m c 2 t) (iblk m c 3 t) (ix2 ⟨512 + (x 0).val, by omega⟩ k) := by
      intro k
      have hx := x0_lt
      rw [← hgb]
      clear hgb hwb wb gb
      generalize hy : (ix2 ⟨512 + (x 0).val, by omega⟩ k : S768x1280.Idx) = y'
      have hy0 : (y' 0).val = 512 + (x 0).val := by rw [← hy]; rfl
      have hy1 : (y' 1).val = k.val := by rw [← hy]; rfl
      have hk := k.isLt
      clear hy
      canon_tiles z hz using (by
        obtain h | h | h | h | h | h | h | h | h | h : k.val / 128 = 9 ∨ k.val / 128 = 8 ∨ k.val / 128 = 7 ∨ k.val / 128 = 6 ∨ k.val / 128 = 5 ∨ k.val / 128 = 4 ∨ k.val / 128 = 3 ∨ k.val / 128 = 2 ∨ k.val / 128 = 1 ∨ k.val / 128 = 0 := by omega
        · exact cov_at _ 0 512 1152 256 128 _ _ rfl _ (by omega) (by omega) (by omega) (by omega)
        · exact cov_at _ 1 512 1024 256 128 _ _ rfl _ (by omega) (by omega) (by omega) (by omega)
        · exact cov_at _ 2 512 896 256 128 _ _ rfl _ (by omega) (by omega) (by omega) (by omega)
        · exact cov_at _ 3 512 768 256 128 _ _ rfl _ (by omega) (by omega) (by omega) (by omega)
        · exact cov_at _ 4 512 640 256 128 _ _ rfl _ (by omega) (by omega) (by omega) (by omega)
        · exact cov_at _ 5 512 512 256 128 _ _ rfl _ (by omega) (by omega) (by omega) (by omega)
        · exact cov_at _ 6 512 384 256 128 _ _ rfl _ (by omega) (by omega) (by omega) (by omega)
        · exact cov_at _ 7 512 256 256 128 _ _ rfl _ (by omega) (by omega) (by omega) (by omega)
        · exact cov_at _ 8 512 128 256 128 _ _ rfl _ (by omega) (by omega) (by omega) (by omega)
        · exact cov_at _ 9 512 0 256 128 _ _ rfl _ (by omega) (by omega) (by omega) (by omega))
      · open_payloads
        pointwise [select_grad, named_ln2]
        refine (deq_piece _ _ _ _ _ y' 9 ⟨512 + (z 0).val, by omega⟩ (fun k => ⟨1152 + k.val, by omega⟩) ⟨(z 1).val, z1_lt⟩ 1152#32 (by simp only; omega) (fun k => by simp) (by simp only; omega) rfl).symm
      · open_payloads
        pointwise [select_grad, named_ln2]
        refine (deq_piece _ _ _ _ _ y' 8 ⟨512 + (z 0).val, by omega⟩ (fun k => ⟨1024 + k.val, by omega⟩) ⟨(z 1).val, z1_lt⟩ 1024#32 (by simp only; omega) (fun k => by simp) (by simp only; omega) rfl).symm
      · open_payloads
        pointwise [select_grad, named_ln2]
        refine (deq_piece _ _ _ _ _ y' 7 ⟨512 + (z 0).val, by omega⟩ (fun k => ⟨896 + k.val, by omega⟩) ⟨(z 1).val, z1_lt⟩ 896#32 (by simp only; omega) (fun k => by simp) (by simp only; omega) rfl).symm
      · open_payloads
        pointwise [select_grad, named_ln2]
        refine (deq_piece _ _ _ _ _ y' 6 ⟨512 + (z 0).val, by omega⟩ (fun k => ⟨768 + k.val, by omega⟩) ⟨(z 1).val, z1_lt⟩ 768#32 (by simp only; omega) (fun k => by simp) (by simp only; omega) rfl).symm
      · open_payloads
        pointwise [select_grad, named_ln2]
        refine (deq_piece _ _ _ _ _ y' 5 ⟨512 + (z 0).val, by omega⟩ (fun k => ⟨640 + k.val, by omega⟩) ⟨(z 1).val, z1_lt⟩ 640#32 (by simp only; omega) (fun k => by simp) (by simp only; omega) rfl).symm
      · open_payloads
        pointwise [select_grad, named_ln2]
        refine (deq_piece _ _ _ _ _ y' 4 ⟨512 + (z 0).val, by omega⟩ (fun k => ⟨512 + k.val, by omega⟩) ⟨(z 1).val, z1_lt⟩ 512#32 (by simp only; omega) (fun k => by simp) (by simp only; omega) rfl).symm
      · open_payloads
        pointwise [select_grad, named_ln2]
        refine (deq_piece _ _ _ _ _ y' 3 ⟨512 + (z 0).val, by omega⟩ (fun k => ⟨384 + k.val, by omega⟩) ⟨(z 1).val, z1_lt⟩ 384#32 (by simp only; omega) (fun k => by simp) (by simp only; omega) rfl).symm
      · open_payloads
        pointwise [select_grad, named_ln2]
        refine (deq_piece _ _ _ _ _ y' 2 ⟨512 + (z 0).val, by omega⟩ (fun k => ⟨256 + k.val, by omega⟩) ⟨(z 1).val, z1_lt⟩ 256#32 (by simp only; omega) (fun k => by simp) (by simp only; omega) rfl).symm
      · open_payloads
        pointwise [select_grad, named_ln2]
        refine (deq_piece _ _ _ _ _ y' 1 ⟨512 + (z 0).val, by omega⟩ (fun k => ⟨128 + k.val, by omega⟩) ⟨(z 1).val, z1_lt⟩ 128#32 (by simp only; omega) (fun k => by simp) (by simp only; omega) rfl).symm
      · open_payloads
        pointwise [select_grad, named_ln2]
        refine (deq_piece _ _ _ _ _ y' 0 ⟨512 + (z 0).val, by omega⟩ (fun k => ⟨k.val, by omega⟩) ⟨(z 1).val, z1_lt⟩ 0#32 (by simp only; omega) (fun k => by simp) (by simp only; omega) rfl).symm
      · omega
      · omega
      · omega
      · omega
      · omega
      · omega
      · omega
      · omega
      · omega
      · omega
      · omega
      · omega
      · omega
      · omega
      · omega
      · omega
      · omega
      · omega
      · omega
      · omega
    have hw : ∀ (q : Fin 2304) (k : Fin 1280), wb (ix2 q k) = wV (iblk m c 4 t) (iblk m c 5 t) q k := by
      intro q k
      rw [← hwb]
      clear hgb hg hwb wb gb
      generalize hy : (ix2 q k : S2304x1280.Idx) = y'
      have hy0 : q.val = (y' 0).val := by rw [← hy]; rfl
      have hy1 : k.val = (y' 1).val := by rw [← hy]; rfl
      clear hy
      canon_tiles z hz
      all_goals
        open_payloads
        pointwise
        exact (w_piece _ _ q k _ _ _ (by first | omega | (simp only; omega) | (simp; omega)) (by first | omega | (simp only; omega) | (simp; omega)) (by first | omega | (simp; omega))).symm
    clear hgb hwb
    have hw1 : ∀ k : Fin 1280, wb (ix2 (x 1) k) = wV (iblk m c 4 t) (iblk m c 5 t) ⟨(x 1).val, x1_lt⟩ k := fun k => hw ⟨(x 1).val, x1_lt⟩ k
    have hy : y = ix2 (⟨512 + (x 0).val, by omega⟩ : Fin 768) (⟨(x 1).val, x1_lt⟩ : Fin 2304) :=
      funext fun a => Fin.ext (by revert a; exact Fin.forall_fin_two.mpr ⟨h0, h1⟩)
    rw [hy]
    unfold part
    simp only [hg, hw1, read_unread_whole]
    rfl
  · rw [View.readCov_eq_canon' (Val := Elt Ideal), View.readCov_eq_canon' (Val := Elt Ideal)]
    generalize hgb : View.canon (Val := Elt Ideal) _ = gb
    generalize hwb : View.canon (Val := Elt Ideal) _ = wb
    open_payloads
    pointwise
    have hg : ∀ k : Fin 1280, gb (ix2 ⟨256 + (x 0).val, by omega⟩ k) = deqV (BitVec.ofNat 32 (grid0.coords t 1)) (iblk m c 0 t) (iblk m c 1 t) (iblk m c 2 t) (iblk m c 3 t) (ix2 ⟨256 + (x 0).val, by omega⟩ k) := by
      intro k
      have hx := x0_lt
      rw [← hgb]
      clear hgb hwb wb gb
      generalize hy : (ix2 ⟨256 + (x 0).val, by omega⟩ k : S768x1280.Idx) = y'
      have hy0 : (y' 0).val = 256 + (x 0).val := by rw [← hy]; rfl
      have hy1 : (y' 1).val = k.val := by rw [← hy]; rfl
      have hk := k.isLt
      clear hy
      canon_tiles z hz using (by
        obtain h | h | h | h | h | h | h | h | h | h : k.val / 128 = 9 ∨ k.val / 128 = 8 ∨ k.val / 128 = 7 ∨ k.val / 128 = 6 ∨ k.val / 128 = 5 ∨ k.val / 128 = 4 ∨ k.val / 128 = 3 ∨ k.val / 128 = 2 ∨ k.val / 128 = 1 ∨ k.val / 128 = 0 := by omega
        · exact cov_at _ 0 256 1152 256 128 _ _ rfl _ (by omega) (by omega) (by omega) (by omega)
        · exact cov_at _ 1 256 1024 256 128 _ _ rfl _ (by omega) (by omega) (by omega) (by omega)
        · exact cov_at _ 2 256 896 256 128 _ _ rfl _ (by omega) (by omega) (by omega) (by omega)
        · exact cov_at _ 3 256 768 256 128 _ _ rfl _ (by omega) (by omega) (by omega) (by omega)
        · exact cov_at _ 4 256 640 256 128 _ _ rfl _ (by omega) (by omega) (by omega) (by omega)
        · exact cov_at _ 5 256 512 256 128 _ _ rfl _ (by omega) (by omega) (by omega) (by omega)
        · exact cov_at _ 6 256 384 256 128 _ _ rfl _ (by omega) (by omega) (by omega) (by omega)
        · exact cov_at _ 7 256 256 256 128 _ _ rfl _ (by omega) (by omega) (by omega) (by omega)
        · exact cov_at _ 8 256 128 256 128 _ _ rfl _ (by omega) (by omega) (by omega) (by omega)
        · exact cov_at _ 9 256 0 256 128 _ _ rfl _ (by omega) (by omega) (by omega) (by omega))
      · open_payloads
        pointwise [select_grad, named_ln2]
        refine (deq_piece _ _ _ _ _ y' 9 ⟨256 + (z 0).val, by omega⟩ (fun k => ⟨1152 + k.val, by omega⟩) ⟨(z 1).val, z1_lt⟩ 1152#32 (by simp only; omega) (fun k => by simp) (by simp only; omega) rfl).symm
      · open_payloads
        pointwise [select_grad, named_ln2]
        refine (deq_piece _ _ _ _ _ y' 8 ⟨256 + (z 0).val, by omega⟩ (fun k => ⟨1024 + k.val, by omega⟩) ⟨(z 1).val, z1_lt⟩ 1024#32 (by simp only; omega) (fun k => by simp) (by simp only; omega) rfl).symm
      · open_payloads
        pointwise [select_grad, named_ln2]
        refine (deq_piece _ _ _ _ _ y' 7 ⟨256 + (z 0).val, by omega⟩ (fun k => ⟨896 + k.val, by omega⟩) ⟨(z 1).val, z1_lt⟩ 896#32 (by simp only; omega) (fun k => by simp) (by simp only; omega) rfl).symm
      · open_payloads
        pointwise [select_grad, named_ln2]
        refine (deq_piece _ _ _ _ _ y' 6 ⟨256 + (z 0).val, by omega⟩ (fun k => ⟨768 + k.val, by omega⟩) ⟨(z 1).val, z1_lt⟩ 768#32 (by simp only; omega) (fun k => by simp) (by simp only; omega) rfl).symm
      · open_payloads
        pointwise [select_grad, named_ln2]
        refine (deq_piece _ _ _ _ _ y' 5 ⟨256 + (z 0).val, by omega⟩ (fun k => ⟨640 + k.val, by omega⟩) ⟨(z 1).val, z1_lt⟩ 640#32 (by simp only; omega) (fun k => by simp) (by simp only; omega) rfl).symm
      · open_payloads
        pointwise [select_grad, named_ln2]
        refine (deq_piece _ _ _ _ _ y' 4 ⟨256 + (z 0).val, by omega⟩ (fun k => ⟨512 + k.val, by omega⟩) ⟨(z 1).val, z1_lt⟩ 512#32 (by simp only; omega) (fun k => by simp) (by simp only; omega) rfl).symm
      · open_payloads
        pointwise [select_grad, named_ln2]
        refine (deq_piece _ _ _ _ _ y' 3 ⟨256 + (z 0).val, by omega⟩ (fun k => ⟨384 + k.val, by omega⟩) ⟨(z 1).val, z1_lt⟩ 384#32 (by simp only; omega) (fun k => by simp) (by simp only; omega) rfl).symm
      · open_payloads
        pointwise [select_grad, named_ln2]
        refine (deq_piece _ _ _ _ _ y' 2 ⟨256 + (z 0).val, by omega⟩ (fun k => ⟨256 + k.val, by omega⟩) ⟨(z 1).val, z1_lt⟩ 256#32 (by simp only; omega) (fun k => by simp) (by simp only; omega) rfl).symm
      · open_payloads
        pointwise [select_grad, named_ln2]
        refine (deq_piece _ _ _ _ _ y' 1 ⟨256 + (z 0).val, by omega⟩ (fun k => ⟨128 + k.val, by omega⟩) ⟨(z 1).val, z1_lt⟩ 128#32 (by simp only; omega) (fun k => by simp) (by simp only; omega) rfl).symm
      · open_payloads
        pointwise [select_grad, named_ln2]
        refine (deq_piece _ _ _ _ _ y' 0 ⟨256 + (z 0).val, by omega⟩ (fun k => ⟨k.val, by omega⟩) ⟨(z 1).val, z1_lt⟩ 0#32 (by simp only; omega) (fun k => by simp) (by simp only; omega) rfl).symm
      · omega
      · omega
      · omega
      · omega
      · omega
      · omega
      · omega
      · omega
      · omega
      · omega
    have hw : ∀ (q : Fin 2304) (k : Fin 1280), wb (ix2 q k) = wV (iblk m c 4 t) (iblk m c 5 t) q k := by
      intro q k
      rw [← hwb]
      clear hgb hg hwb wb gb
      generalize hy : (ix2 q k : S2304x1280.Idx) = y'
      have hy0 : q.val = (y' 0).val := by rw [← hy]; rfl
      have hy1 : k.val = (y' 1).val := by rw [← hy]; rfl
      clear hy
      canon_tiles z hz
      all_goals
        open_payloads
        pointwise
        exact (w_piece _ _ q k _ _ _ (by first | omega | (simp only; omega) | (simp; omega)) (by first | omega | (simp only; omega) | (simp; omega)) (by first | omega | (simp; omega))).symm
    clear hgb hwb
    have hw1 : ∀ k : Fin 1280, wb (ix2 (x 1) k) = wV (iblk m c 4 t) (iblk m c 5 t) ⟨(x 1).val, x1_lt⟩ k := fun k => hw ⟨(x 1).val, x1_lt⟩ k
    have hy : y = ix2 (⟨256 + (x 0).val, by omega⟩ : Fin 768) (⟨(x 1).val, x1_lt⟩ : Fin 2304) :=
      funext fun a => Fin.ext (by revert a; exact Fin.forall_fin_two.mpr ⟨h0, h1⟩)
    rw [hy]
    unfold part
    simp only [hg, hw1, read_unread_whole]
    rfl
  · rw [View.readCov_eq_canon' (Val := Elt Ideal), View.readCov_eq_canon' (Val := Elt Ideal)]
    generalize hgb : View.canon (Val := Elt Ideal) _ = gb
    generalize hwb : View.canon (Val := Elt Ideal) _ = wb
    open_payloads
    pointwise
    have hg : ∀ k : Fin 1280, gb (ix2 ⟨(x 0).val, by omega⟩ k) = deqV (BitVec.ofNat 32 (grid0.coords t 1)) (iblk m c 0 t) (iblk m c 1 t) (iblk m c 2 t) (iblk m c 3 t) (ix2 ⟨(x 0).val, by omega⟩ k) := by
      intro k
      have hx := x0_lt
      rw [← hgb]
      clear hgb hwb wb gb
      generalize hy : (ix2 ⟨(x 0).val, by omega⟩ k : S768x1280.Idx) = y'
      have hy0 : (y' 0).val = 0 + (x 0).val := by rw [← hy]; simp
      have hy1 : (y' 1).val = k.val := by rw [← hy]; rfl
      have hk := k.isLt
      clear hy
      canon_tiles z hz using (by
        obtain h | h | h | h | h | h | h | h | h | h : k.val / 128 = 9 ∨ k.val / 128 = 8 ∨ k.val / 128 = 7 ∨ k.val / 128 = 6 ∨ k.val / 128 = 5 ∨ k.val / 128 = 4 ∨ k.val / 128 = 3 ∨ k.val / 128 = 2 ∨ k.val / 128 = 1 ∨ k.val / 128 = 0 := by omega
        · exact cov_at _ 0 0 1152 256 128 _ _ rfl _ (by omega) (by omega) (by omega) (by omega)
        · exact cov_at _ 1 0 1024 256 128 _ _ rfl _ (by omega) (by omega) (by omega) (by omega)
        · exact cov_at _ 2 0 896 256 128 _ _ rfl _ (by omega) (by omega) (by omega) (by omega)
        · exact cov_at _ 3 0 768 256 128 _ _ rfl _ (by omega) (by omega) (by omega) (by omega)
        · exact cov_at _ 4 0 640 256 128 _ _ rfl _ (by omega) (by omega) (by omega) (by omega)
        · exact cov_at _ 5 0 512 256 128 _ _ rfl _ (by omega) (by omega) (by omega) (by omega)
        · exact cov_at _ 6 0 384 256 128 _ _ rfl _ (by omega) (by omega) (by omega) (by omega)
        · exact cov_at _ 7 0 256 256 128 _ _ rfl _ (by omega) (by omega) (by omega) (by omega)
        · exact cov_at _ 8 0 128 256 128 _ _ rfl _ (by omega) (by omega) (by omega) (by omega)
        · exact cov_at _ 9 0 0 256 128 _ _ rfl _ (by omega) (by omega) (by omega) (by omega))
      · open_payloads
        pointwise [select_grad, named_ln2]
        refine (deq_piece _ _ _ _ _ y' 9 ⟨(z 0).val, by omega⟩ (fun k => ⟨1152 + k.val, by omega⟩) ⟨(z 1).val, z1_lt⟩ 1152#32 (by simp only; omega) (fun k => by simp) (by simp only; omega) rfl).symm
      · open_payloads
        pointwise [select_grad, named_ln2]
        refine (deq_piece _ _ _ _ _ y' 8 ⟨(z 0).val, by omega⟩ (fun k => ⟨1024 + k.val, by omega⟩) ⟨(z 1).val, z1_lt⟩ 1024#32 (by simp only; omega) (fun k => by simp) (by simp only; omega) rfl).symm
      · open_payloads
        pointwise [select_grad, named_ln2]
        refine (deq_piece _ _ _ _ _ y' 7 ⟨(z 0).val, by omega⟩ (fun k => ⟨896 + k.val, by omega⟩) ⟨(z 1).val, z1_lt⟩ 896#32 (by simp only; omega) (fun k => by simp) (by simp only; omega) rfl).symm
      · open_payloads
        pointwise [select_grad, named_ln2]
        refine (deq_piece _ _ _ _ _ y' 6 ⟨(z 0).val, by omega⟩ (fun k => ⟨768 + k.val, by omega⟩) ⟨(z 1).val, z1_lt⟩ 768#32 (by simp only; omega) (fun k => by simp) (by simp only; omega) rfl).symm
      · open_payloads
        pointwise [select_grad, named_ln2]
        refine (deq_piece _ _ _ _ _ y' 5 ⟨(z 0).val, by omega⟩ (fun k => ⟨640 + k.val, by omega⟩) ⟨(z 1).val, z1_lt⟩ 640#32 (by simp only; omega) (fun k => by simp) (by simp only; omega) rfl).symm
      · open_payloads
        pointwise [select_grad, named_ln2]
        refine (deq_piece _ _ _ _ _ y' 4 ⟨(z 0).val, by omega⟩ (fun k => ⟨512 + k.val, by omega⟩) ⟨(z 1).val, z1_lt⟩ 512#32 (by simp only; omega) (fun k => by simp) (by simp only; omega) rfl).symm
      · open_payloads
        pointwise [select_grad, named_ln2]
        refine (deq_piece _ _ _ _ _ y' 3 ⟨(z 0).val, by omega⟩ (fun k => ⟨384 + k.val, by omega⟩) ⟨(z 1).val, z1_lt⟩ 384#32 (by simp only; omega) (fun k => by simp) (by simp only; omega) rfl).symm
      · open_payloads
        pointwise [select_grad, named_ln2]
        refine (deq_piece _ _ _ _ _ y' 2 ⟨(z 0).val, by omega⟩ (fun k => ⟨256 + k.val, by omega⟩) ⟨(z 1).val, z1_lt⟩ 256#32 (by simp only; omega) (fun k => by simp) (by simp only; omega) rfl).symm
      · open_payloads
        pointwise [select_grad, named_ln2]
        refine (deq_piece _ _ _ _ _ y' 1 ⟨(z 0).val, by omega⟩ (fun k => ⟨128 + k.val, by omega⟩) ⟨(z 1).val, z1_lt⟩ 128#32 (by simp only; omega) (fun k => by simp) (by simp only; omega) rfl).symm
      · open_payloads
        pointwise [select_grad, named_ln2]
        refine (deq_piece _ _ _ _ _ y' 0 ⟨(z 0).val, by omega⟩ (fun k => ⟨k.val, by omega⟩) ⟨(z 1).val, z1_lt⟩ 0#32 (by simp only; omega) (fun k => by simp) (by simp only; omega) rfl).symm
    have hw : ∀ (q : Fin 2304) (k : Fin 1280), wb (ix2 q k) = wV (iblk m c 4 t) (iblk m c 5 t) q k := by
      intro q k
      rw [← hwb]
      clear hgb hg hwb wb gb
      generalize hy : (ix2 q k : S2304x1280.Idx) = y'
      have hy0 : q.val = (y' 0).val := by rw [← hy]; rfl
      have hy1 : k.val = (y' 1).val := by rw [← hy]; rfl
      clear hy
      canon_tiles z hz
      all_goals
        open_payloads
        pointwise
        exact (w_piece _ _ q k _ _ _ (by first | omega | (simp only; omega) | (simp; omega)) (by first | omega | (simp only; omega) | (simp; omega)) (by first | omega | (simp; omega))).symm
    clear hgb hwb
    have hw1 : ∀ k : Fin 1280, wb (ix2 (x 1) k) = wV (iblk m c 4 t) (iblk m c 5 t) ⟨(x 1).val, x1_lt⟩ k := fun k => hw ⟨(x 1).val, x1_lt⟩ k
    have hy : y = ix2 (⟨(x 0).val, by omega⟩ : Fin 768) (⟨(x 1).val, x1_lt⟩ : Fin 2304) :=
      funext fun a => Fin.ext (by revert a; exact Fin.forall_fin_two.mpr ⟨h0, h1⟩)
    rw [hy]
    unfold part
    simp only [hg, hw1, read_unread_whole]
    rfl

set_option maxHeartbeats 1000000 in
/-- At the last vocabulary tile the accumulator is the result. -/
theorem dh_C (c : Dev nD) (t : Fin cfg0.N) (h0 : ¬t.val % 50 = 0) (h1 : t.val % 50 = 49) (y) :
    (outsAt0 (F := Ideal) m c t.val t.isLt).2.1 y = (outsAt0 (F := Ideal) m c t.val t.isLt).2.2 y := by
  rw [outsAt0_C m c t h0 h1]
  frame_out
  rw [View.readCov_eq_canon' (Val := Elt Ideal)]
  generalize View.canon (Val := Elt Ideal) _ = acc
  open_payloads
  pointwise

end Cert.BwdIdeal.Gen
-- ==== Proof.Bwd.Final.lean ====
/- What the kernel leaves in its two results: the codes of the logits' gradient, and the gradient of the hidden state. -/
module

public import proofs.«01_k».proof.Proof.Bwd.Blocks
public import proofs.«01_k».proof.Proof.Bwd.Codes
public import proofs.«01_k».proof.Proof.Bwd.AccA
public import proofs.«01_k».proof.Proof.Bwd.AccB
public import proofs.«01_k».proof.Proof.Bwd.AccC

@[expose] public section

set_option maxRecDepth 16384

noncomputable section

namespace Cert.BwdIdeal.Gen

open Idealize.ShloMosaic Idealize.ShloMosaic.TcCoe Idealize.SL.Sem Cert.BwdIdeal Cert.Quant Cert.Head

variable (m : (ℓ : Loc nD τ sig) → Buf (Elt Ideal) ℓ)

/-- A tile's block of 128 gradients is the arguments'. -/
theorem gblk_eq (c : Dev nD) (t : Fin cfg0.N) (r : Fin 768) (b : Fin 10) (R : Fin 7680) (B : Fin 500)
    (hR : R.val = t.val / 50 * 768 + r.val) (hB : B.val = 10 * (t.val % 50) + b.val) :
    gblk (BitVec.ofNat 32 (grid0.coords t 1)) (iblk m c 0 t) (iblk m c 1 t) (iblk m c 2 t) (iblk m c 3 t) r b =
      gradBlock (aX m c) (aL m c) (aW m c) (aV m c) (aT m c) R B := by
  funext k
  have hk := k.isLt
  have hj : (grid0.coords t 1).val = t.val % 50 := (idx t).2.2.2.2.2.2.2.2.1
  unfold gblk gradBlock
  rw [hj, hit_eq, blk1 m c t r k R hR, blk2 m c t r k R hR, blk3 m c t r k R hR,
    blk0 m c t r ⟨128 * b.val + k.val, by omega⟩ R ⟨128 * B.val + k.val, by omega⟩ hR (by simp only; omega), ← hB]

theorem codeV_eq (c : Dev nD) (t : Fin cfg0.N) (y : S768x1280.Idx) (R : Fin 7680) (v : Fin 64000)
    (hR : R.val = t.val / 50 * 768 + (y 0).val) (hv : v.val = t.val % 50 * 1280 + (y 1).val) :
    codeV (BitVec.ofNat 32 (grid0.coords t 1)) (iblk m c 0 t) (iblk m c 1 t) (iblk m c 2 t) (iblk m c 3 t) y =
      codeAt (aX m c) (aL m c) (aW m c) (aV m c) (aT m c) R v := by
  have h1 : (y 1).val < 1280 := (y 1).isLt
  unfold codeV codeAt
  rw [gblk_eq m c t ⟨(y 0).val, (y 0).isLt⟩ ⟨(y 1).val / 128, by omega⟩ R ⟨v.val / 128, by omega⟩ hR (by simp only; omega)]
  congr 1
  apply Fin.ext
  show (y 1).val % 128 = v.val % 128
  omega

theorem deqV_eq (c : Dev nD) (t : Fin cfg0.N) (y : S768x1280.Idx) (R : Fin 7680) (v : Fin 64000)
    (hR : R.val = t.val / 50 * 768 + (y 0).val) (hv : v.val = t.val % 50 * 1280 + (y 1).val) :
    deqV (BitVec.ofNat 32 (grid0.coords t 1)) (iblk m c 0 t) (iblk m c 1 t) (iblk m c 2 t) (iblk m c 3 t) y =
      deqAt (aX m c) (aL m c) (aW m c) (aV m c) (aT m c) R v := by
  have h1 : (y 1).val < 1280 := (y 1).isLt
  unfold deqV deqAt
  rw [gblk_eq m c t ⟨(y 0).val, (y 0).isLt⟩ ⟨(y 1).val / 128, by omega⟩ R ⟨v.val / 128, by omega⟩ hR (by simp only; omega)]
  congr 1
  apply Fin.ext
  show (y 1).val % 128 = v.val % 128
  omega

theorem wV_eq (c : Dev nD) (t : Fin cfg0.N) (q : Fin 2304) (k : Fin 1280) (v : Fin 64000) (hv : v.val = t.val % 50 * 1280 + k.val) :
    wV (iblk m c 4 t) (iblk m c 5 t) q k = weightAt (aC m c) (aS m c) q v := by
  unfold wV weightAt
  rw [blk4 m c t q k v hv, blk5 m c t ⟨q.val / 128, by omega⟩ k ⟨v.val / 128, by omega⟩ (by simp only; omega)]

/-- What a tile leaves of codes, at every point of the grid. -/
theorem codes (c : Dev nD) (t : Fin cfg0.N) (y) :
    (outsAt0 (F := Ideal) m c t.val t.isLt).1 y =
      codeV (BitVec.ofNat 32 (grid0.coords t 1)) (iblk m c 0 t) (iblk m c 1 t) (iblk m c 2 t) (iblk m c 3 t) y := by
  by_cases h0 : t.val % 50 = 0
  · exact codes_A m c t h0 (by omega) y
  · by_cases h1 : t.val % 50 = 49
    · exact codes_C m c t h0 h1 y
    · exact codes_B m c t h0 h1 y

/-- What a point adds to the accumulator. -/
abbrev partT (c : Dev nD) (t : Fin cfg0.N) (y : S768x2304.Idx) : EReal :=
  part (BitVec.ofNat 32 (grid0.coords t 1)) (iblk m c 0 t) (iblk m c 1 t) (iblk m c 2 t) (iblk m c 3 t) (iblk m c 4 t)
    (iblk m c 5 t) y

theorem acc_reset (c : Dev nD) (t : Fin cfg0.N) (h0 : t.val % 50 = 0) (y : S768x2304.Idx) :
    (show EReal from (outsAt0 (F := Ideal) m c t.val t.isLt).2.2 y) = (0 : EReal) + partT m c t y :=
  (acc_A m c t h0 (by omega) y).trans (zero_add _).symm

theorem acc_step (c : Dev nD) (t : Fin cfg0.N) (h0 : ¬t.val % 50 = 0) (y : S768x2304.Idx) :
    (show EReal from (outsAt0 (F := Ideal) m c t.val t.isLt).2.2 y) =
      (show EReal from (outsAt0 (F := Ideal) m c (t.val - 1) (Nat.lt_of_le_of_lt (Nat.sub_le _ _) t.isLt)).2.2 y) + partT m c t y := by
  by_cases h1 : t.val % 50 = 49
  · exact acc_C m c t h0 h1 y
  · exact acc_B m c t h0 h1 y

/-- The codes after the run. -/
theorem final_codes (c : Dev nD) : (dats m 0 c).arrAt 6 cfg0.N =
    fun i : S7680x64000.Idx => codeAt (aX m c) (aL m c) (aW m c) (aV m c) (aT m c) ⟨(i 0).val, (i 0).isLt⟩ ⟨(i 1).val, (i 1).isLt⟩ := by
  refine (dats m 0 c).arrAt_eq_of_covers 6 _ (by decide +kernel) fun t hf y => ?_
  blk_simp
  rw [after0_6]
  refine (codes m c t y).trans (codeV_eq m c t y _ _ ?_ ?_)
  · blk_simp [idx t]
  · blk_simp [idx t]

/-- The gradient of the hidden state after the run. -/
theorem final_dh (c : Dev nD) : (dats m 0 c).arrAt 8 cfg0.N =
    fun i : S7680x2304.Idx => dhAt (aX m c) (aL m c) (aW m c) (aV m c) (aT m c) (aC m c) (aS m c) ⟨(i 0).val, (i 0).isLt⟩ ⟨(i 1).val, (i 1).isLt⟩ := by
  refine (dats m 0 c).arrAt_eq_of_covers 8 _ (by decide +kernel) fun t hf y => ?_
  have h1 : t.val % 50 = 49 := (flush0_8 t).mp hf
  blk_simp
  rw [after0_8]
  refine (dh_C m c t (by omega) h1 y).trans ?_
  refine (Pipeline.eq_sum_fin_of_reset_step_apply_of_flush
    (fun n h => fun y : S768x2304.Idx => (show EReal from (outsAt0 (F := Ideal) m c n h).2.2 y)) 50 (fun _ => 0) (partT m c)
    (fun t h y => acc_reset m c t h y) (fun t h y => acc_step m c t h y) t h1 y).trans ?_
  rw [zero_add]
  unfold dhAt
  refine Fin.sum_mul_add_congr (n := 1280) fun s k hl => ?_
  have hs := s.isLt
  have hq : (⟨50 * (t.val / 50) + s.val, Pipeline.run_point_lt_of_flush t h1 s⟩ : Fin cfg0.N).val = 50 * (t.val / 50) + s.val := rfl
  congr 1
  · refine deqV_eq m c _ _ _ _ ?_ ?_
    · show _ = (50 * (t.val / 50) + s.val) / 50 * 768 + (y 0).val
      rw [show (50 * (t.val / 50) + s.val) / 50 = t.val / 50 by omega]
      blk_simp [idx t]
    · show s.val * 1280 + k.val = (50 * (t.val / 50) + s.val) % 50 * 1280 + k.val
      omega
  · refine (wV_eq m c _ _ k ⟨s.val * 1280 + k.val, hl⟩ ?_).trans ?_
    · show s.val * 1280 + k.val = (50 * (t.val / 50) + s.val) % 50 * 1280 + k.val
      omega
    · congr 1
      apply Fin.ext
      blk_simp [idx t]

end Cert.BwdIdeal.Gen
-- ==== Proof.Ref.Pay4.lean ====
/- The reference's gradient of the logits, entry by entry. -/
module

public import proofs.«01_k».proof.Proof.Gen.BwdRefIdeal.Frame
public import proofs.«01_k».proof.Proof.Head
public import Idealize.ShloMosaic.Lib.Pipeline.ValueKit
public import Idealize.ShloMosaic.Lib.Claim

@[expose] public section

set_option maxRecDepth 16384

noncomputable section

namespace Cert.BwdRefIdeal.Gen

open Idealize.ShloMosaic Idealize.ShloMosaic.TcCoe Idealize.SL.Sem Cert.BwdRefIdeal Cert.Quant Cert.Head

/-- The reference's gradient of one logit. -/
theorem pay4_at (v0 : Vec Ideal S7680x64000 .f32) (v2 : Vec Ideal S7680x1 .i32) (v6 v8 v18 : Vec Ideal S7680x1 .f32) (r : Fin 7680) (b : Fin 500) (k : Fin 128) :
    k0_pay4 v0 v2 v6 v8 v18 (ix3 r b k) = v6 (ix2 r 0) * (Ideal.exp (v0 (ix2 r ⟨b.val * 128 + k.val, by omega⟩) - v8 (ix2 r 0))
      - FloatOps.sitofp (F := Ideal) .f32 (BitVec.setWidth 32 (IntOp.cmpi .eq (BitVec.ofNat 32 (b.val * 128 + k.val)) (v2 (ix2 r 0))))) * v18 (ix2 r 0) := by
  pointwise [k0_pay4]

end Cert.BwdRefIdeal.Gen
-- ==== Proof.Ref.Pay2.lean ====
/- The reference's codes, entry by entry. -/
module

public import proofs.«01_k».proof.Proof.Gen.BwdRefIdeal.Frame
public import proofs.«01_k».proof.Proof.Head
public import Idealize.ShloMosaic.Lib.Pipeline.ValueKit
public import Idealize.ShloMosaic.Lib.Claim

@[expose] public section

set_option maxRecDepth 16384

noncomputable section

namespace Cert.BwdRefIdeal.Gen

open Idealize.ShloMosaic Idealize.ShloMosaic.TcCoe Idealize.SL.Sem Cert.BwdRefIdeal Cert.Quant Cert.Head

/-- A code of the reference: the scaled gradient clipped to the range of the codes. -/
theorem pay2_at (v42 : FVec Ideal S7680x500x128 .f32) (r : Fin 7680) (v : Fin 64000) :
    k0_pay2 v42 (ix2 r v) = min hi (max lo (v42 (ix3 r ⟨v.val / 128, by omega⟩ ⟨v.val % 128, by omega⟩))) := by
  pointwise [k0_pay2]
  rfl

end Cert.BwdRefIdeal.Gen
-- ==== Proof.Ref.Pay3.lean ====
/- The reference's product, entry by entry. -/
module

public import proofs.«01_k».proof.Proof.Gen.BwdRefIdeal.Frame
public import proofs.«01_k».proof.Proof.Head
public import Idealize.ShloMosaic.Lib.Pipeline.ValueKit
public import Idealize.ShloMosaic.Lib.Claim

@[expose] public section

set_option maxRecDepth 16384

noncomputable section

namespace Cert.BwdRefIdeal.Gen

open Idealize.ShloMosaic Idealize.ShloMosaic.TcCoe Idealize.SL.Sem Cert.BwdRefIdeal Cert.Quant Cert.Head

/-- The reference's product: one sum over the whole vocabulary. -/
theorem pay3_at (v36 : FVec Ideal S7680x500 .f32) (v42 : FVec Ideal S7680x500x128 .f32) (v59 : Vec Ideal S2304x64000 .fp8e4m3) (v61 : Vec Ideal S2304x64000 .f32) (r : Fin 7680) (q : Fin 2304) :
    k0_pay3 v36 v42 v59 v61 (ix2 r q) = ∑ x : Fin 64000, k0_pay2 v42 (ix2 r x) * FloatOps.exp2 (F := Ideal) (φ := .f32) (v36 (ix2 r ⟨x.val / 128, by omega⟩)) * (v59 (ix2 q x) * v61 (ix2 q x)) := by
  pointwise [k0_pay3, k0_pay1]

end Cert.BwdRefIdeal.Gen
-- ==== Proof.Ref.Pay56.lean ====
/- The reference's exponents and scaled gradients, entry by entry. -/
module

public import proofs.«01_k».proof.Proof.Gen.BwdRefIdeal.Frame
public import proofs.«01_k».proof.Proof.Head
public import Idealize.ShloMosaic.Lib.Pipeline.ValueKit
public import Idealize.ShloMosaic.Lib.Claim

@[expose] public section

set_option maxRecDepth 16384

noncomputable section

namespace Cert.BwdRefIdeal.Gen

open Idealize.ShloMosaic Idealize.ShloMosaic.TcCoe Idealize.SL.Sem Cert.BwdRefIdeal Cert.Quant Cert.Head

/-- The maximum along the last axis at one place. -/
theorem max_at {A B : ℕ} (g : FVec Ideal ⟨3, ![A, B, 128]⟩ .f32) (h : (⟨3, ![A, B, 128]⟩ : Shape).Reduces [2] ⟨2, ![A, B]⟩) (hk hb)
    (r : Fin A) (b : Fin B) :
    multiReduction .maximumf [2] ⟨2, ![A, B]⟩ g 0xFF800000#32 h hk hb (ix2 r b) =
      Finset.univ.fold max (Ideal.ofBits .f32 0xFF800000#32) (fun k : Fin 128 => g (ix3 r b k)) := by
  pointwise

/-- The exponents of a table of greatest absolute values. -/
def rE {A B : ℕ} (v24 : FVec Ideal ⟨2, ![A, B]⟩ .f32) : FVec Ideal ⟨2, ![A, B]⟩ .f32 :=
  select (cmpf .oeq v24 (broadcast ⟨2, ![A, B]⟩ (Scalar.ofBits (F := Ideal) .f32 0x00000000#32)))
    (broadcast ⟨2, ![A, B]⟩ (Scalar.ofBits (F := Ideal) .f32 0x00000000#32))
    (addf (floor (divf (log (mulf v24 (broadcast ⟨2, ![A, B]⟩ (Scalar.ofBits (F := Ideal) .f32 0x3B124925#32))))
      (broadcast ⟨2, ![A, B]⟩ (Named.named κ "ln2" 0x3F317218#32)))) (broadcast ⟨2, ![A, B]⟩ (Scalar.ofBits (F := Ideal) .f32 0x3F800000#32)))

/-- The table of exponents at one place. -/
theorem rE_at {A B : ℕ} (g : FVec Ideal ⟨2, ![A, B]⟩ .f32) (r : Fin A) (b : Fin B) : rE g (ix2 r b) = rexpo (g (ix2 r b)) := by
  unfold rexpo expo
  pointwise [rE]
  rfl

/-- The reference's exponents are that table at the blocks' maxima. -/
theorem pay5_eq (v0 : Vec Ideal S7680x64000 .f32) (v2 : Vec Ideal S7680x1 .i32) (v6 v8 v18 : Vec Ideal S7680x1 .f32) :
    k0_pay5 v0 v2 v6 v8 v18 = rE (multiReduction .maximumf [2] S7680x500 (absf (k0_pay4 v0 v2 v6 v8 v18)) 0xFF800000#32 reduces_S7680x500x128_S7680x500 (.inl rfl) rfl) := by
  unfold k0_pay5 rE
  generalize k0_pay4 v0 v2 v6 v8 v18 = g
  rfl

/-- The reference's exponent of one block. -/
theorem pay5_at (v0 : Vec Ideal S7680x64000 .f32) (v2 : Vec Ideal S7680x1 .i32) (v6 v8 v18 : Vec Ideal S7680x1 .f32) (r : Fin 7680) (b : Fin 500) :
    k0_pay5 v0 v2 v6 v8 v18 (ix2 r b) = rexpo (amax fun k => k0_pay4 v0 v2 v6 v8 v18 (ix3 r b k)) := by
  rw [pay5_eq]
  generalize k0_pay4 v0 v2 v6 v8 v18 = g
  refine (rE_at _ r b).trans ?_
  refine congrArg rexpo ?_
  exact max_at (absf g) _ _ _ r b

/-- A table of blocks of 128, each scaled by two to the opposite of its exponent. -/
def rM (g : FVec Ideal ⟨3, ![7680, 500, 128]⟩ .f32) (e : FVec Ideal ⟨2, ![7680, 500]⟩ .f32)
    (h1 : (⟨2, ![7680, 500]⟩ : Shape).ShapeCasts ⟨3, ![7680, 500, 1]⟩) (h2 : (⟨3, ![7680, 500, 1]⟩ : Shape).Broadcasts ⟨3, ![7680, 500, 128]⟩) : FVec Ideal ⟨3, ![7680, 500, 128]⟩ .f32 :=
  mulf g (broadcastTo ⟨3, ![7680, 500, 128]⟩ (shapeCast ⟨3, ![7680, 500, 1]⟩ (exp2 (subf (broadcast ⟨2, ![7680, 500]⟩ (Scalar.ofBits (F := Ideal) .f32 0x00000000#32)) e)) h1) h2)

/-- A table so scaled, at one place. -/
theorem rM_at (g : FVec Ideal ⟨3, ![7680, 500, 128]⟩ .f32) (e : FVec Ideal ⟨2, ![7680, 500]⟩ .f32) (h1 h2) (r : Fin 7680) (b : Fin 500) (k : Fin 128) :
    rM g e h1 h2 (ix3 r b k) = g (ix3 r b k) * FloatOps.exp2 (F := Ideal) (φ := .f32) (0 - e (ix2 r b)) := by
  pointwise [rM]

theorem pay6_eq (v0 : Vec Ideal S7680x64000 .f32) (v2 : Vec Ideal S7680x1 .i32) (v6 v8 v18 : Vec Ideal S7680x1 .f32) :
    k0_pay6 v0 v2 v6 v8 v18 = rM (k0_pay4 v0 v2 v6 v8 v18) (k0_pay5 v0 v2 v6 v8 v18) shapeCasts_S7680x500_S7680x500x1 broadcasts_S7680x500x1_S7680x500x128 := by
  unfold k0_pay6 rM
  generalize k0_pay4 v0 v2 v6 v8 v18 = g
  generalize k0_pay5 v0 v2 v6 v8 v18 = e
  rfl

theorem pay6_at (v0 : Vec Ideal S7680x64000 .f32) (v2 : Vec Ideal S7680x1 .i32) (v6 v8 v18 : Vec Ideal S7680x1 .f32) (r : Fin 7680) (b : Fin 500) (k : Fin 128) :
    k0_pay6 v0 v2 v6 v8 v18 (ix3 r b k) = k0_pay4 v0 v2 v6 v8 v18 (ix3 r b k) * FloatOps.exp2 (F := Ideal) (φ := .f32) (0 - k0_pay5 v0 v2 v6 v8 v18 (ix2 r b)) := by
  rw [pay6_eq]
  generalize k0_pay4 v0 v2 v6 v8 v18 = g
  generalize k0_pay5 v0 v2 v6 v8 v18 = e
  exact rM_at g e _ _ r b k

end Cert.BwdRefIdeal.Gen
-- ==== Proof.Ref.Final.lean ====
/- What the reference leaves in its two results: the same two functions of the arguments. -/
module

public import proofs.«01_k».proof.Proof.Ref.Pay4
public import proofs.«01_k».proof.Proof.Ref.Pay2
public import proofs.«01_k».proof.Proof.Ref.Pay3
public import proofs.«01_k».proof.Proof.Ref.Pay56

@[expose] public section

set_option maxRecDepth 16384

noncomputable section

namespace Cert.BwdRefIdeal.Gen

open Idealize.ShloMosaic Idealize.ShloMosaic.TcCoe Idealize.SL.Sem Cert.BwdRefIdeal Cert.Quant Cert.Head

section
variable (X : FVec Ideal ⟨2, ![7680, 64000]⟩ .f32) (L W V : FVec Ideal ⟨1, ![7680]⟩ .f32) (T : IVec ⟨1, ![7680]⟩ 32)
  (C : FVec Ideal ⟨2, ![2304, 64000]⟩ .fp8e4m3) (S : FVec Ideal ⟨2, ![18, 500]⟩ .f32)
  (x0 : Vec Ideal S7680x64000 .f32) (x1 x2 x3 : Vec Ideal S7680x1 .f32) (x4 : Vec Ideal S7680x1 .i32)
  (x5 : Vec Ideal S2304x64000 .fp8e4m3) (x6 : Vec Ideal S2304x64000 .f32)
  (h0 : ∀ r v, x0 (ix2 r v) = X (ix2 r v)) (h1 : ∀ r, x1 (ix2 r 0) = L (ix1 r)) (h2 : ∀ r, x2 (ix2 r 0) = W (ix1 r))
  (h3 : ∀ r, x3 (ix2 r 0) = V (ix1 r)) (h4 : ∀ r, x4 (ix2 r 0) = T (ix1 r)) (h5 : ∀ q v, x5 (ix2 q v) = C (ix2 q v))
  (h6 : ∀ (q : Fin 2304) (v : Fin 64000), x6 (ix2 q v) = S (ix2 ⟨q.val / 128, by omega⟩ ⟨v.val / 128, by omega⟩))
include h0 h1 h2 h3 h4

/-- The reference's gradient is the shared one. -/
theorem pay4_grad (r : Fin 7680) (b : Fin 500) (k : Fin 128) :
    k0_pay4 x0 x4 x2 x1 x3 (ix3 r b k) = gradBlock X L W V T r b k := by
  refine (pay4_at x0 x4 x2 x1 x3 r b k).trans ?_
  rw [onehot_grad, h0, h1, h2, h3, h4]
  unfold gradBlock
  have e : b.val * 128 + k.val = 128 * b.val + k.val := by omega
  simp only [e]

/-- The reference's exponents are the shared ones. -/
theorem pay5_grad (r : Fin 7680) (b : Fin 500) : k0_pay5 x0 x4 x2 x1 x3 (ix2 r b) = rexpo (amax (gradBlock X L W V T r b)) := by
  refine (pay5_at x0 x4 x2 x1 x3 r b).trans ?_
  simp only [pay4_grad X L W V T x0 x1 x2 x3 x4 h0 h1 h2 h3 h4]

/-- The reference's codes are the shared ones. -/
theorem codes_ref (r : Fin 7680) (v : Fin 64000) :
    k0_pay2 (k0_pay6 x0 x4 x2 x1 x3) (ix2 r v) = codeAt X L W V T r v := by
  refine (pay2_at _ r v).trans ?_
  unfold codeAt code
  rw [pay6_at, pay4_grad X L W V T x0 x1 x2 x3 x4 h0 h1 h2 h3 h4, pay5_grad X L W V T x0 x1 x2 x3 x4 h0 h1 h2 h3 h4, down_eq]

include h5 h6
/-- The reference's product is the shared one. -/
theorem dh_ref (r : Fin 7680) (q : Fin 2304) :
    k0_pay3 (k0_pay5 x0 x4 x2 x1 x3) (k0_pay6 x0 x4 x2 x1 x3) x5 x6 (ix2 r q) = dhAt X L W V T C S r q := by
  refine (pay3_at _ _ x5 x6 r q).trans ?_
  unfold dhAt
  refine Fin.sum_fin_congr fun v => ?_
  rw [codes_ref X L W V T x0 x1 x2 x3 x4 h0 h1 h2 h3 h4, pay5_grad X L W V T x0 x1 x2 x3 x4 h0 h1 h2 h3 h4, h5, h6, ← up_eq]
  rfl
end

/-- Reading the whole array gives it back. -/
theorem ld_r0_0 (x : Vec Ideal S7680x64000 .f32) : View.ld x r0_0 = x := by
  unfold r0_0
  exact View.ld_unit_zero (off := ![0, 0]) (by funext a; revert a; exact Fin.forall_fin_two.mpr ⟨rfl, rfl⟩) _ x

/-- Reading the whole column gives it back. -/
theorem ld_r0_1 {e : EltTy} (x : Vec Ideal S7680x1 e) : View.ld x r0_1 = x := by
  unfold r0_1
  exact View.ld_unit_zero (off := ![0, 0]) (by funext a; revert a; exact Fin.forall_fin_two.mpr ⟨rfl, rfl⟩) _ x

section
variable (x0 : Vec Ideal S7680x64000 .f32) (x1 x2 x3 : Vec Ideal S7680x1 .f32) (x4 : Vec Ideal S7680x1 .i32)
  (x5 : Vec Ideal S2304x64000 .fp8e4m3) (x6 : Vec Ideal S2304x64000 .f32)

/-- The exponents, computed a second time, are the same. -/
theorem pay7_eq : k0_pay7 x0 x1 x2 x3 x4 x5 x6 = k0_pay5 x0 x4 x2 x1 x3 := by
  unfold k0_pay7
  rw [ld_r0_0, ld_r0_1, ld_r0_1, ld_r0_1, ld_r0_1]

/-- The scaled gradients, computed a second time, are the same. -/
theorem pay8_eq : k0_pay8 x0 x1 x2 x3 x4 x5 x6 = k0_pay6 x0 x4 x2 x1 x3 := by
  unfold k0_pay8
  rw [ld_r0_0, ld_r0_1, ld_r0_1, ld_r0_1, ld_r0_1]
end

variable (m : (ℓ : Loc nD τ sig) → Buf (Elt Ideal) ℓ)

abbrev aX (c : Dev nD) : FVec Ideal ⟨2, ![7680, 64000]⟩ .f32 := m ((c : Thread nD τ).loc main_arg0)
abbrev aL (c : Dev nD) : FVec Ideal ⟨1, ![7680]⟩ .f32 := m ((c : Thread nD τ).loc main_arg1)
abbrev aW (c : Dev nD) : FVec Ideal ⟨1, ![7680]⟩ .f32 := m ((c : Thread nD τ).loc main_arg2)
abbrev aV (c : Dev nD) : FVec Ideal ⟨1, ![7680]⟩ .f32 := m ((c : Thread nD τ).loc main_arg3)
abbrev aT (c : Dev nD) : IVec ⟨1, ![7680]⟩ 32 := m ((c : Thread nD τ).loc main_arg4)
abbrev aC (c : Dev nD) : FVec Ideal ⟨2, ![2304, 64000]⟩ .fp8e4m3 := m ((c : Thread nD τ).loc main_arg5)
abbrev aS (c : Dev nD) : FVec Ideal ⟨2, ![18, 500]⟩ .f32 := m ((c : Thread nD τ).loc main_arg6)

/-- Every window is the whole of its array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_9.index t = ![0, 0] :=
  (by decide +kernel : ∀ t : Fin grid0.N, _)

/-- The first operand is the logits. -/
theorem blk0 (c : Dev nD) (t : Fin cfg0.N) (r : Fin 7680) (v : Fin 64000) :
    (iblk m c 0 t : Vec Ideal S7680x64000 .f32) (ix2 r v) = aX m c (ix2 r v) := by
  blk_ext [iblk, Gen.V, idx t]

/-- The second operand is the logsumexp of each row. -/
theorem blk1 (c : Dev nD) (t : Fin cfg0.N) (r : Fin 7680) :
    (iblk m c 1 t : Vec Ideal S7680x1 .f32) (ix2 r 0) = aL m c (ix1 r) := by
  blk_simp [iblk]
  entry_read
  pointwise
  blk_ext [idx t]

/-- The third operand is the weight of each row. -/
theorem blk2 (c : Dev nD) (t : Fin cfg0.N) (r : Fin 7680) :
    (iblk m c 2 t : Vec Ideal S7680x1 .f32) (ix2 r 0) = aW m c (ix1 r) := by
  blk_simp [iblk]
  entry_read
  pointwise
  blk_ext [idx t]

/-- The fourth operand is the validity of each row. -/
theorem blk3 (c : Dev nD) (t : Fin cfg0.N) (r : Fin 7680) :
    (iblk m c 3 t : Vec Ideal S7680x1 .f32) (ix2 r 0) = aV m c (ix1 r) := by
  blk_simp [iblk]
  entry_read
  pointwise
  blk_ext [idx t]

/-- The fifth operand is the label of each row. -/
theorem blk4 (c : Dev nD) (t : Fin cfg0.N) (r : Fin 7680) :
    (iblk m c 4 t : Vec Ideal S7680x1 .i32) (ix2 r 0) = aT m c (ix1 r) := by
  blk_simp [iblk]
  entry_read
  pointwise
  blk_ext [idx t]

/-- The sixth operand is the weight codes. -/
theorem blk5 (c : Dev nD) (t : Fin cfg0.N) (q : Fin 2304) (v : Fin 64000) :
    (iblk m c 5 t : Vec Ideal S2304x64000 .fp8e4m3) (ix2 q v) = aC m c (ix2 q v) := by
  blk_ext [iblk, Gen.V, idx t]

/-- The seventh operand is the weight scales, spread over their blocks. -/
theorem blk6 (c : Dev nD) (t : Fin cfg0.N) (q : Fin 2304) (v : Fin 64000) :
    (iblk m c 6 t : Vec Ideal S2304x64000 .f32) (ix2 q v) = aS m c (ix2 ⟨q.val / 128, by omega⟩ ⟨v.val / 128, by omega⟩) := by
  blk_simp [iblk]
  entry_read
  pointwise
  blk_ext [idx t]

/-- The codes after the run. -/
theorem final_codes (c : Dev nD) : (dats m 0 c).arrAt 7 cfg0.N =
    fun i : S7680x64000.Idx => codeAt (aX m c) (aL m c) (aW m c) (aV m c) (aT m c) ⟨(i 0).val, (i 0).isLt⟩ ⟨(i 1).val, (i 1).isLt⟩ := by
  refine (dats m 0 c).arrAt_eq_of_after_last 7 t0_0 (by decide +kernel) _ fun j => ?_
  blk_simp
  rw [after0_7]
  frame_out
  rw [pay8_eq]
  refine Eq.trans (congrArg _ ?_) (codes_ref (aX m c) (aL m c) (aW m c) (aV m c) (aT m c) _ _ _ _ _ (blk0 m c t0_0) (blk1 m c t0_0)
    (blk2 m c t0_0) (blk3 m c t0_0) (blk4 m c t0_0) ⟨(j 0).val, (j 0).isLt⟩ ⟨(j 1).val, (j 1).isLt⟩)
  funext a
  revert a
  exact Fin.forall_fin_two.mpr ⟨rfl, rfl⟩

/-- The gradient of the hidden state after the run. -/
theorem final_dh (c : Dev nD) : (dats m 0 c).arrAt 9 cfg0.N =
    fun i : S7680x2304.Idx => dhAt (aX m c) (aL m c) (aW m c) (aV m c) (aT m c) (aC m c) (aS m c) ⟨(i 0).val, (i 0).isLt⟩ ⟨(i 1).val, (i 1).isLt⟩ := by
  refine (dats m 0 c).arrAt_eq_of_after_last 9 t0_0 (by decide +kernel) _ fun j => ?_
  blk_simp
  rw [after0_9]
  frame_out
  rw [pay7_eq, pay8_eq]
  refine Eq.trans (congrArg _ ?_) (dh_ref (aX m c) (aL m c) (aW m c) (aV m c) (aT m c) (aC m c) (aS m c) _ _ _ _ _ _ _ (blk0 m c t0_0)
    (blk1 m c t0_0) (blk2 m c t0_0) (blk3 m c t0_0) (blk4 m c t0_0) (blk5 m c t0_0) (blk6 m c t0_0)
    ⟨(j 0).val, (j 0).isLt⟩ ⟨(j 1).val, (j 1).isLt⟩)
  funext a
  revert a
  exact Fin.forall_fin_two.mpr ⟨rfl, rfl⟩

end Cert.BwdRefIdeal.Gen
-- ==== Proof.Pair.lean ====
/- Kernel and reference leave equal results: both are the same functions of the arguments. -/
module

public import proofs.«01_k».proof.Proof.Bwd.Final
public import proofs.«01_k».proof.Proof.Ref.Final
public import proofs.«01_k».proof.Defs

@[expose] public section

set_option maxRecDepth 16384

noncomputable section

namespace Cert.Proof

open Idealize.ShloMosaic Idealize.SL.Sem

section
open Cert.BwdIdeal.Gen

variable (m : (ℓ : Loc Cert.BwdIdeal.nD Cert.BwdIdeal.τ Cert.BwdIdeal.sig) → Buf (Elt Ideal) ℓ)
  (m' : (ℓ : Loc Cert.BwdRefIdeal.nD Cert.BwdRefIdeal.τ Cert.BwdRefIdeal.sig) → Buf (Elt Ideal) ℓ) (c : Dev Cert.BwdIdeal.nD)
  (h0 : Cert.BwdRefIdeal.Gen.aX m' c = aX m c) (h1 : Cert.BwdRefIdeal.Gen.aL m' c = aL m c)
  (h2 : Cert.BwdRefIdeal.Gen.aW m' c = aW m c) (h3 : Cert.BwdRefIdeal.Gen.aV m' c = aV m c)
  (h4 : Cert.BwdRefIdeal.Gen.aT m' c = aT m c) (h5 : Cert.BwdRefIdeal.Gen.aC m' c = aC m c)
  (h6 : Cert.BwdRefIdeal.Gen.aS m' c = aS m c)
include h0 h1 h2 h3 h4

/-- Both leave the same codes. -/
theorem codes_pair : (Cert.BwdRefIdeal.Gen.dats m' 0 c).arrAt 7 Cert.BwdRefIdeal.cfg0.N = (dats m 0 c).arrAt 6 Cert.BwdIdeal.cfg0.N := by
  refine (Cert.BwdRefIdeal.Gen.final_codes m' c).trans (Eq.trans ?_ (final_codes m c).symm)
  rw [h0, h1, h2, h3, h4]

include h5 h6
/-- Both leave the same gradient of the hidden state. -/
theorem dh_pair : (Cert.BwdRefIdeal.Gen.dats m' 0 c).arrAt 9 Cert.BwdRefIdeal.cfg0.N = (dats m 0 c).arrAt 8 Cert.BwdIdeal.cfg0.N := by
  refine (Cert.BwdRefIdeal.Gen.final_dh m' c).trans (Eq.trans ?_ (final_dh m c).symm)
  rw [h0, h1, h2, h3, h4, h5, h6]
end

set_option maxHeartbeats 1600000 in
/-- The ideal kernel and the ideal reference, given equal arguments, leave equal results. -/
theorem algebraic : Cert.algebraic_BwdIdeal_BwdRefIdeal := by
  pair_intro
  · exact Cert.BwdIdeal.Value.run_blocks m g
  · run_from Cert.BwdRefIdeal.Gen.run_main m' g'
    · obtain ⟨h0, h1, h2, h3, h4, h5, h6⟩ := hagree c
      exact codes_pair m m' c h0 h1 h2 h3 h4
    · obtain ⟨h0, h1, h2, h3, h4, h5, h6⟩ := hagree c
      exact dh_pair m m' c h0 h1 h2 h3 h4 h5 h6

end Cert.Proof
-- ==== Proof.Fwd.Value.lean ====
module

public import proofs.«01_k».proof.Proof.Fwd.Frame
public import Idealize.ShloMosaic.Lib.Pipeline.Value

@[expose] public section

noncomputable section

namespace Cert.FwdIdeal.Value

open Cert.FwdIdeal Cert.FwdIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 10) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 7's array is `(dats m 0 c).arrAt 7 N`. -/
theorem post7 (r : PUnit × MemSt nD τ sig (Elt F)) (h : Pipeline.RDat.FramePost (cfgs 0) (fun c => (dats m 0 c).toRForget forgets0) (V m) r) (c : Dev nD) :
    r.2.mem ((c : Thread nD τ).loc main_v5_2) = (dats m 0 c).arrAt 7 cfg0.N :=
  finalR_out0 m r h c 7 forgets0_7

/-- After the frame run, argument `main_arg0` is as launched: input window 0 stages it and never writes it back. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- After the frame run, argument `main_arg1` is as launched: no window stages it, and the run leaves the region's other buffers as they were. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  (Pipeline.RDat.FramePost.arr_in h c 3 rfl).trans ((A_eq m c 3).trans (V_main_arg3 m c))

/-- After the frame run, argument `main_arg4` is as launched: no window stages it, and the run leaves the region's other buffers as they were. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      kept_main_arg0 m r h c,
      kept_main_arg1 m r h c,
      kept_main_arg2 m r h c,
      kept_main_arg3 m r h c,
      kept_main_arg4 m r h c⟩)
    (run_main m ρ)

end Cert.FwdIdeal.Value
-- ==== Proof.Fwd.Trip.lean ====
/- One trip of the first step's row loop at one place: the mean square of a row, the normalised row, and the values its
   codes stand for. -/
module

public import proofs.«01_k».proof.Proof.Gen.FwdIdeal.Loops
public import proofs.«01_k».proof.Proof.Quant
public import Idealize.ShloMosaic.Lib.Pipeline.ValueKit
public import Idealize.ShloMosaic.Lib.Pipeline.ReadBack
public import Idealize.ShloMosaic.Lib.WholeRead
import all proofs.«01_k».proof.Proof.Gen.FwdIdeal.Loops

@[expose] public section

set_option maxRecDepth 16384

noncomputable section

namespace Cert.FwdIdeal.Gen

open Idealize.ShloMosaic Idealize.ShloMosaic.TcCoe Idealize.ShloMosaic.Tactic Cert.Quant

/-- The named constants are the logarithm of two and the inverse of the row length. -/
theorem named_ln2 : Named.named (F := Ideal) (φ := .f32) κ "ln2" 1060205080#32 = ln2 := by
  rfl

theorem named_inv_n : Named.named (F := Ideal) (φ := .f32) κ "inv_n" 0x39E38E39#32 = ((1 / 2304 : ℝ) : EReal) := by
  rfl

/-- The number added to the mean square. -/
def eps : EReal := Ideal.ofBits FTy.f32 0x358637BD#32

/-- The sum of the squares of a row. -/
def ssum (x0 : Vec Ideal S1280x2304 .bf16) (r : Fin 1280) : EReal := ∑ q : Fin 2304, x0 (ix2 r q) * x0 (ix2 r q)

/-- The factor that normalises a row. -/
def rstd (x0 : Vec Ideal S1280x2304 .bf16) (r : Fin 1280) : EReal :=
  Ideal.div 1 (Ideal.sqrt (ssum x0 r * ((1 / 2304 : ℝ) : EReal) + eps))

/-- The normalised hidden state. -/
def norm (x0 : Vec Ideal S1280x2304 .bf16) (x1 : Vec Ideal S1x2304 .f32) (r : Fin 1280) (q : Fin 2304) : EReal :=
  x0 (ix2 r q) * rstd x0 r * x1 (ix2 0 q)

/-- The hidden state as its codes and scales give it back. -/
def deqX (x0 : Vec Ideal S1280x2304 .bf16) (x1 : Vec Ideal S1x2304 .f32) (r : Fin 1280) (q : Fin 2304) : EReal :=
  deq (fun l : Fin 128 => norm x0 x1 r ⟨128 * (q.val / 128) + l.val, by omega⟩) ⟨q.val % 128, by omega⟩

/-- A sum over a row is the sum over 128 lanes of the sums over the eighteen blocks of columns. -/
theorem sum_lanes (f : Fin 2304 → EReal) :
    ∑ q : Fin 2304, f q = ∑ l : Fin 128, ∑ b : Fin 18, f ⟨128 * b.val + l.val, by omega⟩ := by
  rw [← Fintype.sum_prod_type' (f := fun (l : Fin 128) (b : Fin 18) => f ⟨128 * b.val + l.val, by omega⟩)]
  refine (Fintype.sum_bijective (fun p : Fin 128 × Fin 18 => (⟨128 * p.2.val + p.1.val, by omega⟩ : Fin 2304)) ⟨?_, ?_⟩ _ _ fun p => rfl).symm
  · rintro ⟨a, b⟩ ⟨a', b'⟩ h
    have h' : 128 * b.val + a.val = 128 * b'.val + a'.val := congrArg Fin.val h
    exact Prod.ext (Fin.ext (by show a.val = a'.val; omega)) (Fin.ext (by show b.val = b'.val; omega))
  · intro q
    exact ⟨(⟨q.val % 128, by omega⟩, ⟨q.val / 128, by omega⟩), Fin.ext (by show 128 * (q.val / 128) + q.val % 128 = q.val; omega)⟩

theorem sum_blocks (g : Fin 18 → EReal) :
    ∑ b : Fin 18, g b = g 0 + g 1 + g 2 + g 3 + g 4 + g 5 + g 6 + g 7 + g 8 + g 9 + g 10 + g 11 + g 12 + g 13 + g 14 + g 15 + g 16 + g 17 := by
  simp only [Fin.sum_univ_castSucc, Finset.univ_eq_empty, Finset.sum_empty, zero_add]
  rfl

theorem trips_lt (k : Fin k0_t1_loop.trips) : k.val < 40 := Nat.lt_of_lt_of_le k.isLt k0_t1_abs.2.1

/-- The row a trip's local row is. -/
def rowOf (k : Fin k0_t1_loop.trips) (p : Fin 32) : Fin 1280 := ⟨32 * k.val + p.val, by have := trips_lt k; omega⟩

/-- A block of the normalised hidden state: rows of one trip, 128 columns. -/
def nblk (x0 : Vec Ideal S1280x2304 .bf16) (x1 : Vec Ideal S1x2304 .f32) (k : Fin k0_t1_loop.trips) (b : Fin 18) : FVec Ideal S32x128 .f32 :=
  fun j => norm x0 x1 (rowOf k ⟨(j 0).val, (j 0).isLt⟩) ⟨128 * b.val + (j 1).val, by have : (j 1).val < 128 := (j 1).isLt; omega⟩

theorem off1_eq : ∀ k, k0_off1 k = ![32 * k.val, 0] := by decide +kernel
theorem off2_eq : ∀ k, k0_off2 k = ![32 * k.val, 128] := by decide +kernel
theorem off3_eq : ∀ k, k0_off3 k = ![32 * k.val, 256] := by decide +kernel
theorem off4_eq : ∀ k, k0_off4 k = ![32 * k.val, 384] := by decide +kernel
theorem off5_eq : ∀ k, k0_off5 k = ![32 * k.val, 512] := by decide +kernel
theorem off6_eq : ∀ k, k0_off6 k = ![32 * k.val, 640] := by decide +kernel
theorem off7_eq : ∀ k, k0_off7 k = ![32 * k.val, 768] := by decide +kernel
theorem off8_eq : ∀ k, k0_off8 k = ![32 * k.val, 896] := by decide +kernel
theorem off9_eq : ∀ k, k0_off9 k = ![32 * k.val, 1024] := by decide +kernel
theorem off10_eq : ∀ k, k0_off10 k = ![32 * k.val, 1152] := by decide +kernel
theorem off11_eq : ∀ k, k0_off11 k = ![32 * k.val, 1280] := by decide +kernel
theorem off12_eq : ∀ k, k0_off12 k = ![32 * k.val, 1408] := by decide +kernel
theorem off13_eq : ∀ k, k0_off13 k = ![32 * k.val, 1536] := by decide +kernel
theorem off14_eq : ∀ k, k0_off14 k = ![32 * k.val, 1664] := by decide +kernel
theorem off15_eq : ∀ k, k0_off15 k = ![32 * k.val, 1792] := by decide +kernel
theorem off16_eq : ∀ k, k0_off16 k = ![32 * k.val, 1920] := by decide +kernel
theorem off17_eq : ∀ k, k0_off17 k = ![32 * k.val, 2048] := by decide +kernel
theorem off18_eq : ∀ k, k0_off18 k = ![32 * k.val, 2176] := by decide +kernel

section
variable (i : grid0.Coords) (arg2 : Memref sig .tc .vmem S1280x2304 .bf16) (harg2 : arg2.IsWhole) (arg3 : Memref sig .tc .vmem S1x2304 .f32) (harg3 : arg3.IsWhole) (h1 : k0_cond1 i = 1#1)
  (x0 : Vec Ideal S1280x2304 .bf16) (x1 : Vec Ideal S1x2304 .f32) (k : Fin k0_t1_loop.trips)

set_option maxHeartbeats 4000000 in
theorem rstd_eq (j) : trip_k0_t1.sl.v1025 i arg2 h1 (harg2.unread x0) k j = rstd x0 (rowOf k ⟨(j 0).val, (j 0).isLt⟩) := by
  simp only [trip_k0_t1.sl.v1025, trip_k0_t1.sl.v1024, trip_k0_t1.sl.cst_408, trip_k0_t1.sl.v1023, trip_k0_t1.sl.v1022, trip_k0_t1.sl.v1021, trip_k0_t1.sl.cst_407, trip_k0_t1.sl.v1020, trip_k0_t1.sl.r_5, trip_k0_t1.sl.v966, trip_k0_t1.sl.v963, trip_k0_t1.sl.v960, trip_k0_t1.sl.v957, trip_k0_t1.sl.v954, trip_k0_t1.sl.v951, trip_k0_t1.sl.v948, trip_k0_t1.sl.v945, trip_k0_t1.sl.v942, trip_k0_t1.sl.v939, trip_k0_t1.sl.v936, trip_k0_t1.sl.v933, trip_k0_t1.sl.v930]
  open_payloads
  pointwise [named_inv_n, Memref.IsWhole.readAt_unread]
  simp only [Memref.IsWhole.read_unread, off1_eq, off2_eq, off3_eq, off4_eq, off5_eq, off6_eq, off7_eq, off8_eq, off9_eq, off10_eq, off11_eq, off12_eq, off13_eq, off14_eq, off15_eq, off16_eq, off17_eq, off18_eq]
  unfold rstd ssum
  rw [sum_lanes]
  simp only [sum_blocks]
  rfl

theorem nblk0_eq : trip_k0_t1.sl.v1031 i arg2 arg3 h1 (harg2.unread x0) (harg3.unread x1) k = nblk x0 x1 k 0 := by
  funext j
  simp only [trip_k0_t1.sl.v1031, trip_k0_t1.sl.v1030, trip_k0_t1.sl.v1029, trip_k0_t1.sl.v1027, trip_k0_t1.sl.v930, trip_k0_t1.sl.v1026]
  open_payloads
  pointwise [Memref.IsWhole.readAt_unread]
  simp only [rstd_eq i arg2 harg2 h1 x0 k, Memref.IsWhole.read_unread, off1_eq]
  simp [nblk, norm, rowOf]

theorem nblk1_eq : trip_k0_t1.sl.v1037 i arg2 arg3 h1 (harg2.unread x0) (harg3.unread x1) k = nblk x0 x1 k 1 := by
  funext j
  simp only [trip_k0_t1.sl.v1037, trip_k0_t1.sl.v1036, trip_k0_t1.sl.v1035, trip_k0_t1.sl.v1033, trip_k0_t1.sl.v933, trip_k0_t1.sl.v1026]
  open_payloads
  pointwise [Memref.IsWhole.readAt_unread]
  simp only [rstd_eq i arg2 harg2 h1 x0 k, Memref.IsWhole.read_unread, off2_eq]
  rfl

theorem nblk2_eq : trip_k0_t1.sl.v1043 i arg2 arg3 h1 (harg2.unread x0) (harg3.unread x1) k = nblk x0 x1 k 2 := by
  funext j
  simp only [trip_k0_t1.sl.v1043, trip_k0_t1.sl.v1042, trip_k0_t1.sl.v1041, trip_k0_t1.sl.v1039, trip_k0_t1.sl.v936, trip_k0_t1.sl.v1026]
  open_payloads
  pointwise [Memref.IsWhole.readAt_unread]
  simp only [rstd_eq i arg2 harg2 h1 x0 k, Memref.IsWhole.read_unread, off3_eq]
  rfl

theorem nblk3_eq : trip_k0_t1.sl.v1049 i arg2 arg3 h1 (harg2.unread x0) (harg3.unread x1) k = nblk x0 x1 k 3 := by
  funext j
  simp only [trip_k0_t1.sl.v1049, trip_k0_t1.sl.v1048, trip_k0_t1.sl.v1047, trip_k0_t1.sl.v1045, trip_k0_t1.sl.v939, trip_k0_t1.sl.v1026]
  open_payloads
  pointwise [Memref.IsWhole.readAt_unread]
  simp only [rstd_eq i arg2 harg2 h1 x0 k, Memref.IsWhole.read_unread, off4_eq]
  rfl

theorem nblk4_eq : trip_k0_t1.sl.v1055 i arg2 arg3 h1 (harg2.unread x0) (harg3.unread x1) k = nblk x0 x1 k 4 := by
  funext j
  simp only [trip_k0_t1.sl.v1055, trip_k0_t1.sl.v1054, trip_k0_t1.sl.v1053, trip_k0_t1.sl.v1051, trip_k0_t1.sl.v942, trip_k0_t1.sl.v1026]
  open_payloads
  pointwise [Memref.IsWhole.readAt_unread]
  simp only [rstd_eq i arg2 harg2 h1 x0 k, Memref.IsWhole.read_unread, off5_eq]
  rfl

theorem nblk5_eq : trip_k0_t1.sl.v1061 i arg2 arg3 h1 (harg2.unread x0) (harg3.unread x1) k = nblk x0 x1 k 5 := by
  funext j
  simp only [trip_k0_t1.sl.v1061, trip_k0_t1.sl.v1060, trip_k0_t1.sl.v1059, trip_k0_t1.sl.v1057, trip_k0_t1.sl.v945, trip_k0_t1.sl.v1026]
  open_payloads
  pointwise [Memref.IsWhole.readAt_unread]
  simp only [rstd_eq i arg2 harg2 h1 x0 k, Memref.IsWhole.read_unread, off6_eq]
  rfl

theorem nblk6_eq : trip_k0_t1.sl.v1067 i arg2 arg3 h1 (harg2.unread x0) (harg3.unread x1) k = nblk x0 x1 k 6 := by
  funext j
  simp only [trip_k0_t1.sl.v1067, trip_k0_t1.sl.v1066, trip_k0_t1.sl.v1065, trip_k0_t1.sl.v1063, trip_k0_t1.sl.v948, trip_k0_t1.sl.v1026]
  open_payloads
  pointwise [Memref.IsWhole.readAt_unread]
  simp only [rstd_eq i arg2 harg2 h1 x0 k, Memref.IsWhole.read_unread, off7_eq]
  rfl

theorem nblk7_eq : trip_k0_t1.sl.v1073 i arg2 arg3 h1 (harg2.unread x0) (harg3.unread x1) k = nblk x0 x1 k 7 := by
  funext j
  simp only [trip_k0_t1.sl.v1073, trip_k0_t1.sl.v1072, trip_k0_t1.sl.v1071, trip_k0_t1.sl.v1069, trip_k0_t1.sl.v951, trip_k0_t1.sl.v1026]
  open_payloads
  pointwise [Memref.IsWhole.readAt_unread]
  simp only [rstd_eq i arg2 harg2 h1 x0 k, Memref.IsWhole.read_unread, off8_eq]
  rfl

theorem nblk8_eq : trip_k0_t1.sl.v1079 i arg2 arg3 h1 (harg2.unread x0) (harg3.unread x1) k = nblk x0 x1 k 8 := by
  funext j
  simp only [trip_k0_t1.sl.v1079, trip_k0_t1.sl.v1078, trip_k0_t1.sl.v1077, trip_k0_t1.sl.v1075, trip_k0_t1.sl.v954, trip_k0_t1.sl.v1026]
  open_payloads
  pointwise [Memref.IsWhole.readAt_unread]
  simp only [rstd_eq i arg2 harg2 h1 x0 k, Memref.IsWhole.read_unread, off9_eq]
  rfl

theorem nblk9_eq : trip_k0_t1.sl.v1085 i arg2 arg3 h1 (harg2.unread x0) (harg3.unread x1) k = nblk x0 x1 k 9 := by
  funext j
  simp only [trip_k0_t1.sl.v1085, trip_k0_t1.sl.v1084, trip_k0_t1.sl.v1083, trip_k0_t1.sl.v1081, trip_k0_t1.sl.v957, trip_k0_t1.sl.v1026]
  open_payloads
  pointwise [Memref.IsWhole.readAt_unread]
  simp only [rstd_eq i arg2 harg2 h1 x0 k, Memref.IsWhole.read_unread, off10_eq]
  rfl

theorem nblk10_eq : trip_k0_t1.sl.v1091 i arg2 arg3 h1 (harg2.unread x0) (harg3.unread x1) k = nblk x0 x1 k 10 := by
  funext j
  simp only [trip_k0_t1.sl.v1091, trip_k0_t1.sl.v1090, trip_k0_t1.sl.v1089, trip_k0_t1.sl.v1087, trip_k0_t1.sl.v960, trip_k0_t1.sl.v1026]
  open_payloads
  pointwise [Memref.IsWhole.readAt_unread]
  simp only [rstd_eq i arg2 harg2 h1 x0 k, Memref.IsWhole.read_unread, off11_eq]
  rfl

theorem nblk11_eq : trip_k0_t1.sl.v1097 i arg2 arg3 h1 (harg2.unread x0) (harg3.unread x1) k = nblk x0 x1 k 11 := by
  funext j
  simp only [trip_k0_t1.sl.v1097, trip_k0_t1.sl.v1096, trip_k0_t1.sl.v1095, trip_k0_t1.sl.v1093, trip_k0_t1.sl.v963, trip_k0_t1.sl.v1026]
  open_payloads
  pointwise [Memref.IsWhole.readAt_unread]
  simp only [rstd_eq i arg2 harg2 h1 x0 k, Memref.IsWhole.read_unread, off12_eq]
  rfl

theorem nblk12_eq : trip_k0_t1.sl.v1103 i arg2 arg3 h1 (harg2.unread x0) (harg3.unread x1) k = nblk x0 x1 k 12 := by
  funext j
  simp only [trip_k0_t1.sl.v1103, trip_k0_t1.sl.v1102, trip_k0_t1.sl.v1101, trip_k0_t1.sl.v1099, trip_k0_t1.sl.v966, trip_k0_t1.sl.v1026]
  open_payloads
  pointwise [Memref.IsWhole.readAt_unread]
  simp only [rstd_eq i arg2 harg2 h1 x0 k, Memref.IsWhole.read_unread, off13_eq]
  rfl

theorem nblk13_eq : trip_k0_t1.sl.v1109 i arg2 arg3 h1 (harg2.unread x0) (harg3.unread x1) k = nblk x0 x1 k 13 := by
  funext j
  simp only [trip_k0_t1.sl.v1109, trip_k0_t1.sl.v1108, trip_k0_t1.sl.v1107, trip_k0_t1.sl.v1105, trip_k0_t1.sl.v1026, trip_k0_t1.sl.r]
  open_payloads
  pointwise [Memref.IsWhole.readAt_unread]
  simp only [rstd_eq i arg2 harg2 h1 x0 k, Memref.IsWhole.read_unread, off14_eq]
  rfl

theorem nblk14_eq : trip_k0_t1.sl.r_6 i arg2 arg3 h1 (harg2.unread x0) (harg3.unread x1) k = nblk x0 x1 k 14 := by
  funext j
  simp only [trip_k0_t1.sl.r_6, trip_k0_t1.sl.r_1]
  open_payloads
  pointwise [Memref.IsWhole.readAt_unread]
  simp only [rstd_eq i arg2 harg2 h1 x0 k, Memref.IsWhole.read_unread, off15_eq]
  rfl

theorem nblk15_eq : trip_k0_t1.sl.r_7 i arg2 arg3 h1 (harg2.unread x0) (harg3.unread x1) k = nblk x0 x1 k 15 := by
  funext j
  simp only [trip_k0_t1.sl.r_7, trip_k0_t1.sl.r_2]
  open_payloads
  pointwise [Memref.IsWhole.readAt_unread]
  simp only [rstd_eq i arg2 harg2 h1 x0 k, Memref.IsWhole.read_unread, off16_eq]
  rfl

theorem nblk16_eq : trip_k0_t1.sl.r_8 i arg2 arg3 h1 (harg2.unread x0) (harg3.unread x1) k = nblk x0 x1 k 16 := by
  funext j
  simp only [trip_k0_t1.sl.r_8, trip_k0_t1.sl.r_3]
  open_payloads
  pointwise [Memref.IsWhole.readAt_unread]
  simp only [rstd_eq i arg2 harg2 h1 x0 k, Memref.IsWhole.read_unread, off17_eq]
  rfl

theorem nblk17_eq : trip_k0_t1.sl.r_9 i arg2 arg3 h1 (harg2.unread x0) (harg3.unread x1) k = nblk x0 x1 k 17 := by
  funext j
  simp only [trip_k0_t1.sl.r_9, trip_k0_t1.sl.r_4]
  open_payloads
  pointwise [Memref.IsWhole.readAt_unread]
  simp only [rstd_eq i arg2 harg2 h1 x0 k, Memref.IsWhole.read_unread, off18_eq]
  rfl

end

/-- The values of one place of a trip's stores, in the order of the stores. -/
theorem deqX_piece (x0 : Vec Ideal S1280x2304 .bf16) (x1 : Vec Ideal S1x2304 .f32) (k : Fin k0_t1_loop.trips) (b : Fin 18)
    (y : S1280x2304.Idx) (p : Fin 32) (l : Fin 128) (h0 : (y 0).val = 32 * k.val + p.val) (h1 : (y 1).val = 128 * b.val + l.val) :
    deqX x0 x1 ⟨(y 0).val, (y 0).isLt⟩ ⟨(y 1).val, (y 1).isLt⟩ = deq (fun l => nblk x0 x1 k b (ix2 p l)) l := by
  unfold deqX
  have e0 : (⟨(y 0).val, (y 0).isLt⟩ : Fin 1280) = rowOf k p := Fin.ext h0
  have e1 : (⟨(y 1).val % 128, by omega⟩ : Fin 128) = l := Fin.ext (by show (y 1).val % 128 = l.val; omega)
  have e2 : (y 1).val / 128 = b.val := by omega
  simp only [e0, e1, e2]
  rfl

/-- A store at trip `k`'s rows and block `b`'s columns, from its payload. -/
theorem piece_deqX (x0 : Vec Ideal S1280x2304 .bf16) (x1 : Vec Ideal S1x2304 .f32) (k : Fin k0_t1_loop.trips) (b : Fin 18)
    (off : Fin 2 → ℕ) (inb : ∀ a, off a + S32x128.size a ≤ S1280x2304.size a) (w : S32x128.Idx → Elt Ideal .bf16) (h0 : off 0 = 32 * k.val) (h1 : off 1 = 128 * b.val)
    (h : ∀ x : S32x128.Idx, w x = deq (fun l => nblk x0 x1 k b (ix2 ⟨(x 0).val, (x 0).isLt⟩ l)) ⟨(x 1).val, (x 1).isLt⟩)
    (x : (Rect.unit (s := S1280x2304) off S32x128.size inb).shape.Idx) :
    w x = (fun y : S1280x2304.Idx => deqX x0 x1 ⟨(y 0).val, (y 0).isLt⟩ ⟨(y 1).val, (y 1).isLt⟩) ((Rect.unit (s := S1280x2304) off S32x128.size inb).emb x) := by
  refine (h x).trans (deqX_piece x0 x1 k b _ _ _ ?_ ?_).symm
  · rw [Rect.emb_apply]
    show off 0 + 1 * (x 0).val = _
    rw [h0, one_mul]
  · rw [Rect.emb_apply]
    show off 1 + 1 * (x 1).val = _
    rw [h1, one_mul]

set_option maxHeartbeats 4000000 in
/-- Every store of a trip puts the dequantised normalised hidden state. -/
theorem trip_pieces (𝒱 : Variants) (c : Dev nD) (bd : Option 𝒱.V) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (k0_h1 : k0_cond1 i = 1#1) (x0 : Vec Ideal S1280x2304 .bf16) (x1 : Vec Ideal S1x2304 .f32) (k : Fin k0_t1_loop.trips) :
    View.PiecesOf (fun y : S1280x2304.Idx => deqX x0 x1 ⟨(y 0).val, (y 0).isLt⟩ ⟨(y 1).val, (y 1).isLt⟩)
      (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 (harg2.unread x0) (harg3.unread x1) k).2.2 := by
  unfold tripL_k0_t1 trip_k0_t1
  simp only [trip_k0_t1.sl.r_61, trip_k0_t1.sl.r_58, trip_k0_t1.sl.r_55, trip_k0_t1.sl.r_47, trip_k0_t1.sl.r_45, trip_k0_t1.sl.r_43, trip_k0_t1.sl.r_37, trip_k0_t1.sl.r_38, trip_k0_t1.sl.r_34, trip_k0_t1.sl.r_35, trip_k0_t1.sl.r_31, trip_k0_t1.sl.r_32, trip_k0_t1.sl.r_28, trip_k0_t1.sl.r_29, trip_k0_t1.sl.r_23, trip_k0_t1.sl.r_24, trip_k0_t1.sl.r_25, trip_k0_t1.sl.r_26, trip_k0_t1.sl.r_18, trip_k0_t1.sl.r_19, trip_k0_t1.sl.r_20, trip_k0_t1.sl.r_21, trip_k0_t1.sl.r_14, trip_k0_t1.sl.r_15, trip_k0_t1.sl.r_16, trip_k0_t1.sl.r_10, trip_k0_t1.sl.r_11, trip_k0_t1.sl.r_12, trip_k0_t1.sl.v1554, trip_k0_t1.sl.v1553, trip_k0_t1.sl.cst_566, trip_k0_t1.sl.v1552, trip_k0_t1.sl.v1551, trip_k0_t1.sl.v1550, trip_k0_t1.sl.v1544, trip_k0_t1.sl.v1538, trip_k0_t1.sl.v1537, trip_k0_t1.sl.v1536, trip_k0_t1.sl.v1535, trip_k0_t1.sl.v1519, trip_k0_t1.sl.v1517, trip_k0_t1.sl.v1514, trip_k0_t1.sl.v1512, trip_k0_t1.sl.v1511, trip_k0_t1.sl.v1510, trip_k0_t1.sl.cst_554, trip_k0_t1.sl.r_41, trip_k0_t1.sl.v1024, trip_k0_t1.sl.cst_408, trip_k0_t1.sl.v1516, trip_k0_t1.sl.v1515, trip_k0_t1.sl.cst_466, trip_k0_t1.sl.r_40, trip_k0_t1.sl.v1534, trip_k0_t1.sl.v1533, trip_k0_t1.sl.v1532, trip_k0_t1.sl.v1531, trip_k0_t1.sl.cst_562, trip_k0_t1.sl.v1530, trip_k0_t1.sl.v1529, trip_k0_t1.sl.cst_561, trip_k0_t1.sl.v1528, trip_k0_t1.sl.v1527, trip_k0_t1.sl.v1526, trip_k0_t1.sl.v1524, trip_k0_t1.sl.v1523,
    nblk0_eq i arg2 harg2 arg3 harg3 k0_h1 x0 x1 k, nblk1_eq i arg2 harg2 arg3 harg3 k0_h1 x0 x1 k, nblk2_eq i arg2 harg2 arg3 harg3 k0_h1 x0 x1 k, nblk3_eq i arg2 harg2 arg3 harg3 k0_h1 x0 x1 k, nblk4_eq i arg2 harg2 arg3 harg3 k0_h1 x0 x1 k, nblk5_eq i arg2 harg2 arg3 harg3 k0_h1 x0 x1 k, nblk6_eq i arg2 harg2 arg3 harg3 k0_h1 x0 x1 k, nblk7_eq i arg2 harg2 arg3 harg3 k0_h1 x0 x1 k, nblk8_eq i arg2 harg2 arg3 harg3 k0_h1 x0 x1 k, nblk9_eq i arg2 harg2 arg3 harg3 k0_h1 x0 x1 k, nblk10_eq i arg2 harg2 arg3 harg3 k0_h1 x0 x1 k, nblk11_eq i arg2 harg2 arg3 harg3 k0_h1 x0 x1 k, nblk12_eq i arg2 harg2 arg3 harg3 k0_h1 x0 x1 k, nblk13_eq i arg2 harg2 arg3 harg3 k0_h1 x0 x1 k, nblk14_eq i arg2 harg2 arg3 harg3 k0_h1 x0 x1 k, nblk15_eq i arg2 harg2 arg3 harg3 k0_h1 x0 x1 k, nblk16_eq i arg2 harg2 arg3 harg3 k0_h1 x0 x1 k, nblk17_eq i arg2 harg2 arg3 harg3 k0_h1 x0 x1 k]
  refine ⟨?_, ?_, ?_, ?_, ?_, ?_, ?_, ?_, ?_, ?_, ?_, ?_, ?_, ?_, ?_, ?_, ?_, ?_, trivial⟩
  · refine piece_deqX x0 x1 k 17 (k0_off18 k) (k0_off18_inb i k k0_h1) _ (congrFun (off18_eq k) 0) (congrFun (off18_eq k) 1) fun x => ?_
    open_payloads
    pointwise [named_ln2]
    rfl
  · refine piece_deqX x0 x1 k 16 (k0_off17 k) (k0_off17_inb i k k0_h1) _ (congrFun (off17_eq k) 0) (congrFun (off17_eq k) 1) fun x => ?_
    open_payloads
    pointwise [named_ln2]
    rfl
  · refine piece_deqX x0 x1 k 15 (k0_off16 k) (k0_off16_inb i k k0_h1) _ (congrFun (off16_eq k) 0) (congrFun (off16_eq k) 1) fun x => ?_
    open_payloads
    pointwise [named_ln2]
    rfl
  · refine piece_deqX x0 x1 k 14 (k0_off15 k) (k0_off15_inb i k k0_h1) _ (congrFun (off15_eq k) 0) (congrFun (off15_eq k) 1) fun x => ?_
    open_payloads
    pointwise [named_ln2]
    rfl
  · refine piece_deqX x0 x1 k 13 (k0_off14 k) (k0_off14_inb i k k0_h1) _ (congrFun (off14_eq k) 0) (congrFun (off14_eq k) 1) fun x => ?_
    open_payloads
    pointwise [named_ln2]
    rfl
  · refine piece_deqX x0 x1 k 12 (k0_off13 k) (k0_off13_inb i k k0_h1) _ (congrFun (off13_eq k) 0) (congrFun (off13_eq k) 1) fun x => ?_
    open_payloads
    pointwise [named_ln2]
    rfl
  · refine piece_deqX x0 x1 k 11 (k0_off12 k) (k0_off12_inb i k k0_h1) _ (congrFun (off12_eq k) 0) (congrFun (off12_eq k) 1) fun x => ?_
    open_payloads
    pointwise [named_ln2]
    rfl
  · refine piece_deqX x0 x1 k 10 (k0_off11 k) (k0_off11_inb i k k0_h1) _ (congrFun (off11_eq k) 0) (congrFun (off11_eq k) 1) fun x => ?_
    open_payloads
    pointwise [named_ln2]
    rfl
  · refine piece_deqX x0 x1 k 9 (k0_off10 k) (k0_off10_inb i k k0_h1) _ (congrFun (off10_eq k) 0) (congrFun (off10_eq k) 1) fun x => ?_
    open_payloads
    pointwise [named_ln2]
    rfl
  · refine piece_deqX x0 x1 k 8 (k0_off9 k) (k0_off9_inb i k k0_h1) _ (congrFun (off9_eq k) 0) (congrFun (off9_eq k) 1) fun x => ?_
    open_payloads
    pointwise [named_ln2]
    rfl
  · refine piece_deqX x0 x1 k 7 (k0_off8 k) (k0_off8_inb i k k0_h1) _ (congrFun (off8_eq k) 0) (congrFun (off8_eq k) 1) fun x => ?_
    open_payloads
    pointwise [named_ln2]
    rfl
  · refine piece_deqX x0 x1 k 6 (k0_off7 k) (k0_off7_inb i k k0_h1) _ (congrFun (off7_eq k) 0) (congrFun (off7_eq k) 1) fun x => ?_
    open_payloads
    pointwise [named_ln2]
    rfl
  · refine piece_deqX x0 x1 k 5 (k0_off6 k) (k0_off6_inb i k k0_h1) _ (congrFun (off6_eq k) 0) (congrFun (off6_eq k) 1) fun x => ?_
    open_payloads
    pointwise [named_ln2]
    rfl
  · refine piece_deqX x0 x1 k 4 (k0_off5 k) (k0_off5_inb i k k0_h1) _ (congrFun (off5_eq k) 0) (congrFun (off5_eq k) 1) fun x => ?_
    open_payloads
    pointwise [named_ln2]
    rfl
  · refine piece_deqX x0 x1 k 3 (k0_off4 k) (k0_off4_inb i k k0_h1) _ (congrFun (off4_eq k) 0) (congrFun (off4_eq k) 1) fun x => ?_
    open_payloads
    pointwise [named_ln2]
    rfl
  · refine piece_deqX x0 x1 k 2 (k0_off3 k) (k0_off3_inb i k k0_h1) _ (congrFun (off3_eq k) 0) (congrFun (off3_eq k) 1) fun x => ?_
    open_payloads
    pointwise [named_ln2]
    rfl
  · refine piece_deqX x0 x1 k 1 (k0_off2 k) (k0_off2_inb i k k0_h1) _ (congrFun (off2_eq k) 0) (congrFun (off2_eq k) 1) fun x => ?_
    open_payloads
    pointwise [named_ln2]
    rfl
  · refine piece_deqX x0 x1 k 0 (k0_off1 k) (k0_off1_inb i k k0_h1) _ (congrFun (off1_eq k) 0) (congrFun (off1_eq k) 1) fun x => ?_
    open_payloads
    pointwise [named_ln2]
    rfl

/-- The stores of the trips before any one: each puts the dequantised normalised hidden state. -/
theorem loop_pieces (𝒱 : Variants) (c : Dev nD) (bd : Option 𝒱.V) (i : grid0.Coords) (arg2 : Memref sig .tc .vmem S1280x2304 .bf16) (harg2 : arg2.IsWhole) (arg3 : Memref sig .tc .vmem S1x2304 .f32) (harg3 : arg3.IsWhole) (arg4 : Memref sig .tc .vmem S1280x128 .i32) (harg4 : arg4.IsWhole) (arg5 : Memref sig .tc .vmem S2304x1280 .fp8e4m3) (harg5 : arg5.IsWhole) (arg6 : Memref sig .tc .vmem S18x1280 .f32) (harg6 : arg6.IsWhole) (arg7 : Memref sig .tc .vmem S1280x2304 .fp8e4m3) (harg7 : arg7.IsWhole) (arg8 : Memref sig .tc .vmem S1280x18 .f32) (harg8 : arg8.IsWhole) (arg9 : Memref sig .tc .vmem S1280x1280 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1280x2304 .bf16) (harg12 : arg12.IsWhole) (arg13 : Memref sig .tc .vmem S2304x1280 .bf16) (harg13 : arg13.IsWhole) (arg14 : Memref sig .tc .vmem S1280x128 .f32) (harg14 : arg14.IsWhole) (arg15 : Memref sig .tc .vmem S1280x128 .f32) (harg15 : arg15.IsWhole) (arg16 : Memref sig .tc .vmem S1280x128 .f32) (harg16 : arg16.IsWhole) (k0_h1 : k0_cond1 i = 1#1) (x0 : Vec Ideal S1280x2304 .bf16) (x1 : Vec Ideal S1x2304 .f32) : ∀ n : ℕ, n ≤ k0_t1_loop.trips →
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 (harg2.unread x0) (harg3.unread x1) n).2.2, ∀ x : p.1.shape.Idx,
      p.2 x = (fun y : S1280x2304.Idx => deqX x0 x1 ⟨(y 0).val, (y 0).isLt⟩ ⟨(y 1).val, (y 1).isLt⟩) (p.1.emb x)
  | 0, _, p, hp => by
    rw [pb_k0_t1.eq_1] at hp
    exact absurd hp List.not_mem_nil
  | n + 1, hn, p, hp => by
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 (harg2.unread x0) (harg3.unread x1) ⟨n, hn⟩] at hp
    rcases List.mem_append.mp hp with h | h
    · exact (trip_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 x0 x1 ⟨n, hn⟩).mem p h
    · exact loop_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 x0 x1 n (Nat.le_of_succ_le hn) p h

end Cert.FwdIdeal.Gen
-- ==== Proof.Fwd.Sweep.lean ====
/- The normalised hidden state a row tile carries, and the tile of logits each point stores. -/
module

public import proofs.«01_k».proof.Proof.Fwd.Value
public import proofs.«01_k».proof.Proof.Fwd.Trip
public import Idealize.ShloMosaic.Lib.Pipeline.ValueKit
public import Idealize.ShloMosaic.Lib.Pipeline.ReadBack

@[expose] public section

set_option maxRecDepth 16384

noncomputable section

namespace Cert.FwdIdeal.Gen

open Idealize.ShloMosaic Idealize.ShloMosaic.TcCoe Idealize.SL.Sem Cert.FwdIdeal Cert.Quant

variable (m : (ℓ : Loc nD τ sig) → Buf (Elt Ideal) ℓ)

/-- The dequantised weights of a tile. -/
def wV (x3 : Vec Ideal S2304x1280 .fp8e4m3) (x4 : Vec Ideal S18x1280 .f32) (q : Fin 2304) (k : Fin 1280) : EReal :=
  x3 (ix2 q k) * x4 (ix2 ⟨q.val / 128, by omega⟩ k)

theorem w_piece (x3 : Vec Ideal S2304x1280 .fp8e4m3) (x4 : Vec Ideal S18x1280 .f32) (q : Fin 2304) (k : Fin 1280)
    (Q : Fin 2304) (K : Fin 1280) (B : Fin 18) (hQ : Q.val = q.val) (hK : K.val = k.val) (hB : B.val = q.val / 128) :
    wV x3 x4 q k = x3 (ix2 Q K) * x4 (ix2 B K) := by
  obtain rfl : Q = q := Fin.ext hQ
  obtain rfl : K = k := Fin.ext hK
  have hB' : (⟨Q.val / 128, by omega⟩ : Fin 18) = B := Fin.ext hB.symm
  unfold wV
  rw [hB']

/-- A tile of logits, from the rows `xb` and the tile's weights. -/
def logitV (xb : Fin 1280 → Fin 2304 → EReal) (x3 : Vec Ideal S2304x1280 .fp8e4m3) (x4 : Vec Ideal S18x1280 .f32) (y : S1280x1280.Idx) : EReal :=
  ∑ q : Fin 2304, xb ⟨(y 0).val, (y 0).isLt⟩ q * wV x3 x4 q ⟨(y 1).val, (y 1).isLt⟩

/-- The rows after a row tile's first point. -/
theorem xb_A (c : Dev nD) (t : Fin cfg0.N) (h0 : t.val % 50 = 0) (h1 : ¬t.val % 50 = 49) (y) :
    (outsAt0 (F := Ideal) m c t.val t.isLt).2.1 y = deqX (iblk m c 0 t) (iblk m c 1 t) ⟨(y 0).val, (y 0).isLt⟩ ⟨(y 1).val, (y 1).isLt⟩ := by
  rw [outsAt0_A m c t h0 h1]
  frame_out
  exact View.canon_apply_of_pieces (fun y : S1280x2304.Idx => deqX (iblk m c 0 t) (iblk m c 1 t) ⟨(y 0).val, (y 0).isLt⟩ ⟨(y 1).val, (y 1).isLt⟩) _
    (loop_pieces _ _ _ _ _ _ _ _ _ _ _ _ _ _ _ _ _ _ _ _ _ _ _ _ _ _ _ _ _ _ _ _ _ _ _ (iblk m c 0 t) (iblk m c 1 t) _ le_rfl) y
    (scover0_A_0 c (grid0.coords t) _ _ _ _ _ _ _ _ _ _ _ _ _ _ _ _ _ _ _ _ _ _ _ _ _ _ _ _ _ _ ((hcond0_0 t).mpr h0) (fun h => h1 ((hcond0_1 t).mp h)) _ _ (iblk m c 2 t) (iblk m c 3 t) (iblk m c 4 t) y)

/-- The rows are carried to the other points. -/
theorem xb_step (c : Dev nD) (t : Fin cfg0.N) (h0 : ¬t.val % 50 = 0) :
    (outsAt0 (F := Ideal) m c t.val t.isLt).2.1 = (outsAt0 (F := Ideal) m c (t.val - 1) (Nat.lt_of_le_of_lt (Nat.sub_le _ _) t.isLt)).2.1 := by
  by_cases h1 : t.val % 50 = 49
  · rw [outsAt0_C m c t h0 h1]
    rfl
  · rw [outsAt0_B m c t h0 h1]
    rfl

set_option maxHeartbeats 1000000 in
/-- The tile of logits at a middle point. -/
theorem logit_B (c : Dev nD) (t : Fin cfg0.N) (h0 : ¬t.val % 50 = 0) (h1 : ¬t.val % 50 = 49) (y) :
    (outsAt0 (F := Ideal) m c t.val t.isLt).1 y = logitV (fun r q => (outsAt0 (F := Ideal) m c (t.val - 1) (Nat.lt_of_le_of_lt (Nat.sub_le _ _) t.isLt)).2.1 (ix2 r q)) (iblk m c 3 t) (iblk m c 4 t) y := by
  rw [outsAt0_B m c t h0 h1]
  frame_out
  generalize (outsAt0 (F := Ideal) m c (t.val - 1) (Nat.lt_of_le_of_lt (Nat.sub_le _ _) t.isLt)) = prev
  canon_tiles x h
  all_goals
    simp only [View.readCov_eq_canon' (Val := Elt Ideal)]
    generalize hwb : (View.canon (Val := Elt Ideal) _ : S2304x1280.Idx → Elt Ideal .bf16) = wb
    open_payloads
    pointwise
    have hw : ∀ (q : Fin 2304) (k : Fin 1280), wb (ix2 q k) = wV (iblk m c 3 t) (iblk m c 4 t) q k := by
      intro q k
      rw [← hwb]
      clear hwb wb
      generalize hy : (ix2 q k : S2304x1280.Idx) = y'
      have hy0 : q.val = (y' 0).val := by rw [← hy]; rfl
      have hy1 : k.val = (y' 1).val := by rw [← hy]; rfl
      clear hy
      canon_tiles z hz
      all_goals
        open_payloads
        pointwise
        exact (w_piece _ _ q k _ _ _ (by first | omega | (simp only; omega) | (simp; omega)) (by first | omega | (simp only; omega) | (simp; omega)) (by first | omega | (simp; omega))).symm
    clear hwb
    have hw1 : ∀ q : Fin 2304, wb (ix2 q (x 1)) = wV (iblk m c 3 t) (iblk m c 4 t) q ⟨(x 1).val, x1_lt⟩ := fun q => hw q ⟨(x 1).val, x1_lt⟩
    have e1 : (⟨(y 1).val, (y 1).isLt⟩ : Fin 1280) = ⟨(x 1).val, x1_lt⟩ := Fin.ext h1
    unfold logitV
    rw [e1]
    refine Finset.sum_congr rfl fun q _ => ?_
    rw [hw1]
    congr 1
    rw [read_unread_whole]
    refine congrArg (fun r : Fin 1280 => prev.2.1 (ix2 r q)) (Fin.ext ?_)
    first | omega | (simp only; omega) | (simp; omega) | trace_state

set_option maxHeartbeats 1000000 in
/-- The tile of logits at a last point. -/
theorem logit_C (c : Dev nD) (t : Fin cfg0.N) (h0 : ¬t.val % 50 = 0) (h1 : t.val % 50 = 49) (y) :
    (outsAt0 (F := Ideal) m c t.val t.isLt).1 y = logitV (fun r q => (outsAt0 (F := Ideal) m c (t.val - 1) (Nat.lt_of_le_of_lt (Nat.sub_le _ _) t.isLt)).2.1 (ix2 r q)) (iblk m c 3 t) (iblk m c 4 t) y := by
  rw [outsAt0_C m c t h0 h1]
  frame_out
  generalize (outsAt0 (F := Ideal) m c (t.val - 1) (Nat.lt_of_le_of_lt (Nat.sub_le _ _) t.isLt)) = prev
  canon_tiles x h
  all_goals
    simp only [View.readCov_eq_canon' (Val := Elt Ideal)]
    generalize hwb : (View.canon (Val := Elt Ideal) _ : S2304x1280.Idx → Elt Ideal .bf16) = wb
    open_payloads
    pointwise
    have hw : ∀ (q : Fin 2304) (k : Fin 1280), wb (ix2 q k) = wV (iblk m c 3 t) (iblk m c 4 t) q k := by
      intro q k
      rw [← hwb]
      clear hwb wb
      generalize hy : (ix2 q k : S2304x1280.Idx) = y'
      have hy0 : q.val = (y' 0).val := by rw [← hy]; rfl
      have hy1 : k.val = (y' 1).val := by rw [← hy]; rfl
      clear hy
      canon_tiles z hz
      all_goals
        open_payloads
        pointwise
        exact (w_piece _ _ q k _ _ _ (by first | omega | (simp only; omega) | (simp; omega)) (by first | omega | (simp only; omega) | (simp; omega)) (by first | omega | (simp; omega))).symm
    clear hwb
    have hw1 : ∀ q : Fin 2304, wb (ix2 q (x 1)) = wV (iblk m c 3 t) (iblk m c 4 t) q ⟨(x 1).val, x1_lt⟩ := fun q => hw q ⟨(x 1).val, x1_lt⟩
    have e1 : (⟨(y 1).val, (y 1).isLt⟩ : Fin 1280) = ⟨(x 1).val, x1_lt⟩ := Fin.ext h1
    unfold logitV
    rw [e1]
    refine Finset.sum_congr rfl fun q _ => ?_
    rw [hw1]
    congr 1
    rw [read_unread_whole]
    refine congrArg (fun r : Fin 1280 => prev.2.1 (ix2 r q)) (Fin.ext ?_)
    first | omega | (simp only; omega) | (simp; omega) | trace_state

set_option maxHeartbeats 1000000 in
/-- The tile of logits at a first point. -/
theorem logit_A (c : Dev nD) (t : Fin cfg0.N) (h0 : t.val % 50 = 0) (h1 : ¬t.val % 50 = 49) (y) :
    (outsAt0 (F := Ideal) m c t.val t.isLt).1 y = logitV (fun r q => deqX (iblk m c 0 t) (iblk m c 1 t) r q) (iblk m c 3 t) (iblk m c 4 t) y := by
  rw [outsAt0_A m c t h0 h1]
  have hx : ∀ y : S1280x2304.Idx, (outsAt0 (F := Ideal) m c t.val t.isLt).2.1 y = _ := xb_A m c t h0 h1
  rw [outsAt0_A m c t h0 h1] at hx
  frame_out at hx
  frame_out
  canon_tiles x h
  all_goals
    simp only [View.readCov_eq_canon' (Val := Elt Ideal)]
    generalize (View.canon (Val := Elt Ideal) _ : S1280x2304.Idx → Elt Ideal .bf16) = xb at hx ⊢
    generalize hwb : (View.canon (Val := Elt Ideal) _ : S2304x1280.Idx → Elt Ideal .bf16) = wb
    open_payloads
    pointwise
    have hw : ∀ (q : Fin 2304) (k : Fin 1280), wb (ix2 q k) = wV (iblk m c 3 t) (iblk m c 4 t) q k := by
      intro q k
      rw [← hwb]
      clear hwb wb
      generalize hy : (ix2 q k : S2304x1280.Idx) = y'
      have hy0 : q.val = (y' 0).val := by rw [← hy]; rfl
      have hy1 : k.val = (y' 1).val := by rw [← hy]; rfl
      clear hy
      canon_tiles z hz
      all_goals
        open_payloads
        pointwise
        exact (w_piece _ _ q k _ _ _ (by first | omega | (simp only; omega) | (simp; omega)) (by first | omega | (simp only; omega) | (simp; omega)) (by first | omega | (simp; omega))).symm
    clear hwb
    have hw1 : ∀ q : Fin 2304, wb (ix2 q (x 1)) = wV (iblk m c 3 t) (iblk m c 4 t) q ⟨(x 1).val, x1_lt⟩ := fun q => hw q ⟨(x 1).val, x1_lt⟩
    have e1 : (⟨(y 1).val, (y 1).isLt⟩ : Fin 1280) = ⟨(x 1).val, x1_lt⟩ := Fin.ext h1
    unfold logitV
    rw [e1]
    refine Finset.sum_congr rfl fun q _ => ?_
    rw [hw1]
    congr 1
    rw [hx]
    congr 1
    exact Fin.ext (by first | omega | (simp; omega))

end Cert.FwdIdeal.Gen
-- ==== Proof.Logit.lean ====
/- The logits of the vocabulary head, entry by entry, as functions of the arguments: each row of the hidden state divided
   by its root mean square and scaled, quantised in blocks of 128, and multiplied with the dequantised weights. -/
module

public import proofs.«01_k».proof.Proof.Head

@[expose] public section

noncomputable section

namespace Cert.Logit

open Idealize.ShloMosaic Cert.Quant Cert.Head

/-- The number added to the mean square. -/
def eps : EReal := Ideal.ofBits FTy.f32 0x358637BD#32

/-- The mean square of a row, and the number added to it. -/
def msq (x : Fin 2304 → EReal) : EReal := (∑ q : Fin 2304, x q * x q) * ((1 / 2304 : ℝ) : EReal) + eps

/-- A row, normalised. -/
def normRow (x g : Fin 2304 → EReal) (q : Fin 2304) : EReal := x q * Ideal.div 1 (Ideal.sqrt (msq x)) * g q

/-- A normalised row as its codes and scales give it back. -/
def deqRow (x g : Fin 2304 → EReal) (q : Fin 2304) : EReal :=
  deq (fun l : Fin 128 => normRow x g ⟨128 * (q.val / 128) + l.val, by omega⟩) ⟨q.val % 128, by omega⟩

/-- The logit of row `r` at column `v`. -/
def logitAt (H : FVec Ideal ⟨2, ![7680, 2304]⟩ .bf16) (G : FVec Ideal ⟨1, ![2304]⟩ .f32) (C : FVec Ideal ⟨2, ![2304, 64000]⟩ .fp8e4m3)
    (S : FVec Ideal ⟨2, ![18, 500]⟩ .f32) (r : Fin 7680) (v : Fin 64000) : EReal :=
  ∑ q : Fin 2304, deqRow (fun q => H (ix2 r q)) (fun q => G (ix1 q)) q * weightAt C S q v

theorem eps_pos : 0 < eps := by
  have h : eps = ((8796093 * (2 : ℝ) ^ (-43 : ℤ) : ℝ) : EReal) := by
    simp [eps, Ideal.ofBits, Ideal.ieee]
  rw [h]
  exact_mod_cast (by positivity)

theorem sq_nonneg (x : EReal) : 0 ≤ x * x := by
  rcases le_total 0 x with h | h
  · exact mul_nonneg h h
  · rw [← neg_mul_neg]
    exact mul_nonneg (EReal.neg_nonneg.mpr h) (EReal.neg_nonneg.mpr h)

theorem msq_pos (x : Fin 2304 → EReal) : 0 < msq x := by
  have hs : 0 ≤ ∑ q : Fin 2304, x q * x q := Finset.sum_nonneg fun q _ => sq_nonneg _
  have hn : (0 : EReal) ≤ ((1 / 2304 : ℝ) : EReal) := by exact_mod_cast (by positivity)
  exact lt_of_lt_of_le eps_pos (le_add_of_nonneg_left (mul_nonneg hs hn))

theorem sqrt_ne_zero (y : EReal) (h : 0 < y) : Ideal.sqrt y ≠ 0 := by
  induction y with
  | bot => exact absurd h (by simp)
  | top => exact EReal.top_ne_zero
  | coe r =>
    have hr : 0 < r := by exact_mod_cast h
    have : Real.sqrt r ≠ 0 := (Real.sqrt_pos.mpr hr).ne'
    show (if r < 0 then ⊥ else ((Real.sqrt r : ℝ) : EReal)) ≠ 0
    rw [if_neg (not_lt.mpr hr.le)]
    exact_mod_cast this

/-- Dividing by the root mean square is multiplying by its inverse. -/
theorem div_rms (x : Fin 2304 → EReal) (a : EReal) : Ideal.div a (Ideal.sqrt (msq x)) = a * Ideal.div 1 (Ideal.sqrt (msq x)) := by
  have h := sqrt_ne_zero _ (msq_pos x)
  rw [Ideal.div, Ideal.div, if_neg h, if_neg h, one_mul]

theorem n_eq : Ideal.ofBits FTy.f32 0x45100000#32 = ((2304 : ℝ) : EReal) := by
  simp [Ideal.ofBits, Ideal.ieee]
  rw [← EReal.coe_mul]
  congr 1
  norm_num

/-- Dividing by the row length is multiplying by its inverse. -/
theorem div_n (a : EReal) : Ideal.div a (Ideal.ofBits FTy.f32 0x45100000#32) = a * ((1 / 2304 : ℝ) : EReal) := by
  rw [n_eq, Ideal.div_coe (by norm_num)]

end Cert.Logit
-- ==== Proof.Fwd.Blocks.lean ====
/- The operands' blocks at each point of the kernel's grid, as entries of the arguments; the rows a row tile carries; and
   the logits after the run. -/
module

public import proofs.«01_k».proof.Proof.Fwd.Sweep
public import proofs.«01_k».proof.Proof.Logit
public import Idealize.ShloMosaic.Lib.Pipeline.ValueKit
public import Idealize.ShloMosaic.Lib.Claim

@[expose] public section

set_option maxRecDepth 16384

noncomputable section

namespace Cert.FwdIdeal.Gen

open Idealize.ShloMosaic Idealize.ShloMosaic.TcCoe Idealize.SL.Sem Cert.FwdIdeal Cert.Quant Cert.Head Cert.Logit

variable (m : (ℓ : Loc nD τ sig) → Buf (Elt Ideal) ℓ)

/-- The blocks each window is at, point by point. -/
theorem idx : ∀ t : Fin cfg0.N, win0_0.index t = ![t.val / 50, 0] ∧ win0_1.index t = ![0, 0]
    ∧ win0_3.index t = ![0, t.val % 50] ∧ win0_4.index t = ![0, t.val % 50] ∧ win0_7.index t = ![t.val / 50, t.val % 50]
    ∧ t.val / 50 < 6 :=
  (by decide +kernel : ∀ t : Fin grid0.N, _)

abbrev aH (c : Dev nD) : FVec Ideal ⟨2, ![7680, 2304]⟩ .bf16 := m ((c : Thread nD τ).loc main_arg0)
abbrev aG (c : Dev nD) : FVec Ideal ⟨1, ![2304]⟩ .f32 := m ((c : Thread nD τ).loc main_arg1)
abbrev aC (c : Dev nD) : FVec Ideal ⟨2, ![2304, 64000]⟩ .fp8e4m3 := m ((c : Thread nD τ).loc main_arg3)
abbrev aS (c : Dev nD) : FVec Ideal ⟨2, ![18, 500]⟩ .f32 := m ((c : Thread nD τ).loc main_arg4)

/-- The block of hidden state. -/
theorem blk0 (c : Dev nD) (t : Fin cfg0.N) (r : Fin 1280) (q : Fin 2304) (R : Fin 7680) (hR : R.val = t.val / 50 * 1280 + r.val) :
    (iblk m c 0 t : Vec Ideal S1280x2304 .bf16) (ix2 r q) = aH m c (ix2 R q) := by
  blk_ext [iblk, V, idx t]

/-- The scale of each column. -/
theorem blk1 (c : Dev nD) (t : Fin cfg0.N) (q : Fin 2304) :
    (iblk m c 1 t : Vec Ideal S1x2304 .f32) (ix2 0 q) = aG m c (ix1 q) := by
  blk_simp [iblk]
  entry_read
  pointwise
  blk_ext [idx t]

/-- The block of weight codes. -/
theorem blk3 (c : Dev nD) (t : Fin cfg0.N) (q : Fin 2304) (k : Fin 1280) (v' : Fin 64000) (hv : v'.val = t.val % 50 * 1280 + k.val) :
    (iblk m c 3 t : Vec Ideal S2304x1280 .fp8e4m3) (ix2 q k) = aC m c (ix2 q v') := by
  blk_ext [iblk, V, idx t]

/-- The block of weight scales. -/
theorem blk4 (c : Dev nD) (t : Fin cfg0.N) (q : Fin 18) (k : Fin 1280) (b : Fin 500) (hv : b.val = (t.val % 50 * 1280 + k.val) / 128) :
    (iblk m c 4 t : Vec Ideal S18x1280 .f32) (ix2 q k) = aS m c (ix2 q b) := by
  blk_simp [iblk]
  entry_read
  pointwise
  blk_ext [idx t]

theorem deqX_row (x0 : Vec Ideal S1280x2304 .bf16) (x1 : Vec Ideal S1x2304 .f32) (r : Fin 1280) (q : Fin 2304) :
    deqX x0 x1 r q = deqRow (fun q => x0 (ix2 r q)) (fun q => x1 (ix2 0 q)) q := rfl

theorem deqX_eq (c : Dev nD) (t : Fin cfg0.N) (r : Fin 1280) (q : Fin 2304) (R : Fin 7680) (hR : R.val = t.val / 50 * 1280 + r.val) :
    deqX (iblk m c 0 t) (iblk m c 1 t) r q = deqRow (fun q => aH m c (ix2 R q)) (fun q => aG m c (ix1 q)) q := by
  rw [deqX_row]
  congr 1
  · funext q'
    exact blk0 m c t r q' R hR
  · funext q'
    exact blk1 m c t q'

theorem wV_eq (c : Dev nD) (t : Fin cfg0.N) (q : Fin 2304) (k : Fin 1280) (v : Fin 64000) (hv : v.val = t.val % 50 * 1280 + k.val) :
    wV (iblk m c 3 t) (iblk m c 4 t) q k = weightAt (aC m c) (aS m c) q v := by
  unfold wV weightAt
  rw [blk3 m c t q k v hv, blk4 m c t ⟨q.val / 128, by omega⟩ k ⟨v.val / 128, by omega⟩ (by simp only; omega)]

/-- The rows at every point: the row tile's normalised hidden state. -/
theorem xb_eq (c : Dev nD) : ∀ (n : ℕ) (hn : n < cfg0.N) (r : Fin 1280) (q : Fin 2304) (R : Fin 7680) (_ : R.val = n / 50 * 1280 + r.val),
    (outsAt0 (F := Ideal) m c n hn).2.1 (ix2 r q) = deqRow (fun q => aH m c (ix2 R q)) (fun q => aG m c (ix1 q)) q := by
  intro n
  induction n with
  | zero =>
    intro hn r q R hR
    exact (xb_A m c ⟨0, hn⟩ rfl (by simp) (ix2 r q)).trans (deqX_eq m c ⟨0, hn⟩ r q R hR)
  | succ n ih =>
    intro hn r q R hR
    by_cases h0 : (n + 1) % 50 = 0
    · exact (xb_A m c ⟨n + 1, hn⟩ h0 (by simp only; omega) (ix2 r q)).trans (deqX_eq m c ⟨n + 1, hn⟩ r q R hR)
    · refine (congrFun (xb_step m c ⟨n + 1, hn⟩ h0) (ix2 r q)).trans (ih (by omega) r q R ?_)
      rw [hR]
      omega

/-- What a point leaves of logits. -/
theorem logits (c : Dev nD) (t : Fin cfg0.N) (y : S1280x1280.Idx) (R : Fin 7680) (v : Fin 64000)
    (hR : R.val = t.val / 50 * 1280 + (y 0).val) (hv : v.val = t.val % 50 * 1280 + (y 1).val) :
    (outsAt0 (F := Ideal) m c t.val t.isLt).1 y = logitAt (aH m c) (aG m c) (aC m c) (aS m c) R v := by
  have hw : ∀ q, wV (iblk m c 3 t) (iblk m c 4 t) q ⟨(y 1).val, (y 1).isLt⟩ = weightAt (aC m c) (aS m c) q v :=
    fun q => wV_eq m c t q ⟨(y 1).val, (y 1).isLt⟩ v hv
  by_cases h0 : t.val % 50 = 0
  · refine (logit_A m c t h0 (by omega) y).trans ?_
    unfold logitV logitAt
    exact Finset.sum_congr rfl fun q _ => congrArg₂ (· * ·) (deqX_eq m c t ⟨(y 0).val, (y 0).isLt⟩ q R hR) (hw q)
  · have hx : ∀ q, (outsAt0 (F := Ideal) m c (t.val - 1) (Nat.lt_of_le_of_lt (Nat.sub_le _ _) t.isLt)).2.1 (ix2 ⟨(y 0).val, (y 0).isLt⟩ q) = _ :=
      fun q => xb_eq m c (t.val - 1) _ ⟨(y 0).val, (y 0).isLt⟩ q R (by rw [hR]; simp only; omega)
    by_cases h1 : t.val % 50 = 49
    · refine (logit_C m c t h0 h1 y).trans ?_
      unfold logitV logitAt
      exact Finset.sum_congr rfl fun q _ => congrArg₂ (· * ·) (hx q) (hw q)
    · refine (logit_B m c t h0 h1 y).trans ?_
      unfold logitV logitAt
      exact Finset.sum_congr rfl fun q _ => congrArg₂ (· * ·) (hx q) (hw q)

/-- The logits after the run. -/
theorem final_logits (c : Dev nD) : (dats m 0 c).arrAt 7 cfg0.N =
    fun i : S7680x64000.Idx => logitAt (aH m c) (aG m c) (aC m c) (aS m c) ⟨(i 0).val, (i 0).isLt⟩ ⟨(i 1).val, (i 1).isLt⟩ := by
  refine (dats m 0 c).arrAt_eq_of_covers 7 _ (by decide +kernel) fun t hf y => ?_
  blk_simp
  rw [after0_7]
  refine logits m c t y _ _ ?_ ?_
  · blk_simp [idx t]
  · blk_simp [idx t]

end Cert.FwdIdeal.Gen
-- ==== Proof.FwdRef.Pay.lean ====
/- The reference's logits: the same function of the arguments. -/
module

public import proofs.«01_k».proof.Proof.Gen.FwdRefIdeal.Frame
public import proofs.«01_k».proof.Proof.Logit
public import Idealize.ShloMosaic.Lib.Pipeline.ValueKit
public import Idealize.ShloMosaic.Lib.Claim

@[expose] public section

set_option maxRecDepth 16384

noncomputable section

namespace Cert.FwdRefIdeal.Gen

open Idealize.ShloMosaic Idealize.ShloMosaic.TcCoe Idealize.SL.Sem Cert.FwdRefIdeal Cert.Quant Cert.Head Cert.Logit

variable (m : (ℓ : Loc nD τ sig) → Buf (Elt Ideal) ℓ)

abbrev aH (c : Dev nD) : FVec Ideal ⟨2, ![7680, 2304]⟩ .bf16 := m ((c : Thread nD τ).loc main_arg0)
abbrev aG (c : Dev nD) : FVec Ideal ⟨1, ![2304]⟩ .f32 := m ((c : Thread nD τ).loc main_arg1)
abbrev aC (c : Dev nD) : FVec Ideal ⟨2, ![2304, 64000]⟩ .fp8e4m3 := m ((c : Thread nD τ).loc main_arg3)
abbrev aS (c : Dev nD) : FVec Ideal ⟨2, ![18, 500]⟩ .f32 := m ((c : Thread nD τ).loc main_arg4)

/-- Every window is the whole of its array. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The first operand is the normalised hidden state. -/
theorem blk0 (c : Dev nD) (t : Fin cfg0.N) (r : Fin 7680) (q : Fin 2304) :
    (iblk m c 0 t : Vec Ideal S7680x2304 .f32) (ix2 r q) = normRow (fun q => aH m c (ix2 r q)) (fun q => aG m c (ix1 q)) q := by
  blk_simp [iblk]
  entry_read
  pointwise
  have e : (((View.whole main_v13).slice (win0_0.rect t)).emb (ix2 r q) : S7680x2304.Idx) = ix2 r q := by
    funext a
    apply Fin.ext
    revert a
    exact Fin.forall_fin_two.mpr ⟨by blk_simp [idx t], by blk_simp [idx t]⟩
  rw [e, div_n]
  exact congrArg (· * aG m c (ix1 q)) (div_rms (fun q => aH m c (ix2 r q)) (aH m c (ix2 r q)))

/-- The second operand is the weight codes. -/
theorem blk1 (c : Dev nD) (t : Fin cfg0.N) (q : Fin 2304) (v : Fin 64000) :
    (iblk m c 1 t : Vec Ideal S2304x64000 .fp8e4m3) (ix2 q v) = aC m c (ix2 q v) := by
  blk_ext [iblk, Gen.V, idx t]

/-- The third operand is the weight scales, spread over their blocks. -/
theorem blk2 (c : Dev nD) (t : Fin cfg0.N) (q : Fin 2304) (v : Fin 64000) :
    (iblk m c 2 t : Vec Ideal S2304x64000 .f32) (ix2 q v) = aS m c (ix2 ⟨q.val / 128, by omega⟩ ⟨v.val / 128, by omega⟩) := by
  blk_simp [iblk]
  entry_read
  pointwise
  blk_ext [idx t]

/-- The maximum along the last axis at one place. -/
theorem max_at {A B : ℕ} (g : FVec Ideal ⟨3, ![A, B, 128]⟩ .f32) (h : (⟨3, ![A, B, 128]⟩ : Shape).Reduces [2] ⟨2, ![A, B]⟩) (hk hb)
    (r : Fin A) (b : Fin B) :
    multiReduction .maximumf [2] ⟨2, ![A, B]⟩ g 0xFF800000#32 h hk hb (ix2 r b) =
      Finset.univ.fold max (Ideal.ofBits .f32 0xFF800000#32) (fun k : Fin 128 => g (ix3 r b k)) := by
  pointwise

/-- A table of rows, cut into blocks of 128 columns. -/
def rG (v0 : Vec Ideal S7680x2304 .f32) : FVec Ideal S7680x18x128 .f32 :=
  shapeCast S7680x18x128 (shapeCast S7680x2304 v0 shapeCasts_S7680x2304_S7680x2304) shapeCasts_S7680x2304_S7680x18x128

theorem rG_at (v0 : Vec Ideal S7680x2304 .f32) (r : Fin 7680) (b : Fin 18) (k : Fin 128) :
    rG v0 (ix3 r b k) = v0 (ix2 r ⟨128 * b.val + k.val, by omega⟩) := by
  have e : (⟨128 * b.val + k.val, by omega⟩ : Fin 2304) = ⟨b.val * 128 + k.val, by omega⟩ := Fin.ext (by simp only; omega)
  rw [e]
  pointwise [rG]

/-- The exponents of a table of greatest absolute values. -/
def rE (v24 : FVec Ideal S7680x18 .f32) : FVec Ideal S7680x18 .f32 :=
  select (cmpf .oeq v24 (broadcast S7680x18 (Scalar.ofBits (F := Ideal) .f32 0x00000000#32)))
    (broadcast S7680x18 (Scalar.ofBits (F := Ideal) .f32 0x00000000#32))
    (addf (floor (divf (log (mulf v24 (broadcast S7680x18 (Scalar.ofBits (F := Ideal) .f32 0x3B124925#32))))
      (broadcast S7680x18 (Named.named κ "ln2" 0x3F317218#32)))) (broadcast S7680x18 (Scalar.ofBits (F := Ideal) .f32 0x3F800000#32)))

theorem rE_at (g : FVec Ideal S7680x18 .f32) (r : Fin 7680) (b : Fin 18) : rE g (ix2 r b) = rexpo (g (ix2 r b)) := by
  unfold rexpo expo
  pointwise [rE]
  rfl

/-- A table of blocks, each scaled by two to the opposite of its exponent and clipped to the range of the codes. -/
def rQ (g : FVec Ideal S7680x18x128 .f32) (e : FVec Ideal S7680x18 .f32) : FVec Ideal S7680x18x128 .f32 :=
  minimumf (broadcast S7680x18x128 (Scalar.ofBits (F := Ideal) .f32 0x43E00000#32))
    (maximumf (broadcast S7680x18x128 (Scalar.ofBits (F := Ideal) .f32 0xC3E00000#32))
      (mulf g (broadcastTo S7680x18x128 (shapeCast S7680x18x1 (exp2 (subf (broadcast S7680x18 (Scalar.ofBits (F := Ideal) .f32 0x00000000#32)) e))
        shapeCasts_S7680x18_S7680x18x1) broadcasts_S7680x18x1_S7680x18x128)))

theorem rQ_at (g : FVec Ideal S7680x18x128 .f32) (e : FVec Ideal S7680x18 .f32) (r : Fin 7680) (b : Fin 18) (k : Fin 128) :
    rQ g e (ix3 r b k) = min hi (max lo (g (ix3 r b k) * FloatOps.exp2 (F := Ideal) (φ := .f32) (0 - e (ix2 r b)))) := by
  pointwise [rQ]
  rfl

/-- The values the codes of a table of blocks stand for. -/
def rX (c : FVec Ideal S7680x18x128 .f32) (e : FVec Ideal S7680x18 .f32) : FVec Ideal S7680x2304 .bf16 :=
  shapeCast S7680x2304 (mulf (shapeCast S7680x18x128 (extf .bf16 (truncf .fp8e4m3 (shapeCast S7680x2304 c shapeCasts_S7680x18x128_S7680x2304)
      bitsLt_fp8e4m3_f32) bitsLt_fp8e4m3_bf16) shapeCasts_S7680x2304_S7680x18x128)
    (broadcastTo S7680x18x128 (shapeCast S7680x18x1 (truncf .bf16 (exp2 e) bitsLt_bf16_f32) shapeCasts_S7680x18_S7680x18x1)
      broadcasts_S7680x18x1_S7680x18x128)) shapeCasts_S7680x18x128_S7680x2304

theorem rX_at (c : FVec Ideal S7680x18x128 .f32) (e : FVec Ideal S7680x18 .f32) (r : Fin 7680) (q : Fin 2304) :
    rX c e (ix2 r q) = c (ix3 r ⟨q.val / 128, by omega⟩ ⟨q.val % 128, by omega⟩) *
      FloatOps.exp2 (F := Ideal) (φ := .f32) (e (ix2 r ⟨q.val / 128, by omega⟩)) := by
  pointwise [rX]

/-- The product of rows and dequantised weights. -/
def rP (x : FVec Ideal S7680x2304 .bf16) (v37 : Vec Ideal S2304x64000 .fp8e4m3) (v39 : Vec Ideal S2304x64000 .f32) : FVec Ideal S7680x64000 .f32 :=
  matmul dot_S7680x2304_S2304x64000_S7680x64000_1_0_0_1_n_n none x
    (mulf (extf .bf16 v37 bitsLt_fp8e4m3_bf16) (truncf .bf16 (shapeCast S2304x64000 v39 shapeCasts_S2304x64000_S2304x64000) bitsLt_bf16_f32))
    (constant S7680x64000 .f32 0x00000000#32)

theorem rP_at (x : FVec Ideal S7680x2304 .bf16) (v37 : Vec Ideal S2304x64000 .fp8e4m3) (v39 : Vec Ideal S2304x64000 .f32) (r : Fin 7680) (v : Fin 64000) :
    rP x v37 v39 (ix2 r v) = ∑ q : Fin 2304, x (ix2 r q) * (v37 (ix2 q v) * v39 (ix2 q v)) := by
  pointwise [rP]

theorem pay1_eq (v0 : Vec Ideal S7680x2304 .f32) (v37 : Vec Ideal S2304x64000 .fp8e4m3) (v39 : Vec Ideal S2304x64000 .f32) :
    k0_pay1 v0 v37 v39 =
      rP (rX (rQ (rG v0) (rE (multiReduction .maximumf [2] S7680x18 (absf (rG v0)) 0xFF800000#32 reduces_S7680x18x128_S7680x18 (.inl rfl) rfl)))
        (rE (multiReduction .maximumf [2] S7680x18 (absf (rG v0)) 0xFF800000#32 reduces_S7680x18x128_S7680x18 (.inl rfl) rfl))) v37 v39 := rfl

/-- The reference's result of one row and one column: the sum of the products of the row's values, as their codes and
    scales give them back, and the column's weights. -/
theorem pay1_at (v0 : Vec Ideal S7680x2304 .f32) (v37 : Vec Ideal S2304x64000 .fp8e4m3) (v39 : Vec Ideal S2304x64000 .f32) (r : Fin 7680) (v : Fin 64000) :
    k0_pay1 v0 v37 v39 (ix2 r v) =
      ∑ q : Fin 2304, deq (fun l : Fin 128 => v0 (ix2 r ⟨128 * (q.val / 128) + l.val, by omega⟩)) ⟨q.val % 128, by omega⟩ *
        (v37 (ix2 q v) * v39 (ix2 q v)) := by
  rw [pay1_eq]
  have he : ∀ b : Fin 18, (rE (multiReduction .maximumf [2] S7680x18 (absf (rG v0)) 0xFF800000#32 reduces_S7680x18x128_S7680x18 (.inl rfl) rfl)) (ix2 r b) =
      rexpo (amax fun l : Fin 128 => v0 (ix2 r ⟨128 * b.val + l.val, by omega⟩)) := by
    intro b
    refine (rE_at _ r b).trans (congrArg rexpo ?_)
    refine (max_at (absf (rG v0)) _ _ _ r b).trans ?_
    unfold amax
    refine congrArg (fun f => Finset.fold max _ f Finset.univ) ?_
    funext k
    exact congrArg (FloatOps.absf (F := Ideal) (φ := .f32)) (rG_at v0 r b k)
  generalize rE (multiReduction .maximumf [2] S7680x18 (absf (rG v0)) 0xFF800000#32 reduces_S7680x18x128_S7680x18 (.inl rfl) rfl) = e at he ⊢
  refine (rP_at _ v37 v39 r v).trans ?_
  refine Finset.sum_congr rfl fun q _ => congrArg (· * _) ?_
  refine (rX_at _ e r q).trans ?_
  rw [rQ_at, rG_at, he]
  unfold deq code
  rw [up_eq, down_eq]

/-- The logits after the run. -/
theorem final_logits (c : Dev nD) : (dats m 0 c).arrAt 3 cfg0.N =
    fun i : S7680x64000.Idx => logitAt (aH m c) (aG m c) (aC m c) (aS m c) ⟨(i 0).val, (i 0).isLt⟩ ⟨(i 1).val, (i 1).isLt⟩ := by
  refine (dats m 0 c).arrAt_eq_of_after_last 3 t0_0 (by decide +kernel) _ fun j => ?_
  blk_simp
  rw [after0_3]
  frame_out
  have hj : j = (ix2 (⟨(j 0).val, (j 0).isLt⟩ : Fin 7680) (⟨(j 1).val, (j 1).isLt⟩ : Fin 64000) : S7680x64000.Idx) := by
    funext a
    revert a
    exact Fin.forall_fin_two.mpr ⟨rfl, rfl⟩
  refine Eq.trans (congrArg _ hj) ?_
  refine (pay1_at _ _ _ _ _).trans ?_
  unfold logitAt deqRow weightAt
  refine Finset.sum_congr rfl fun q _ => congrArg₂ (· * ·) ?_ (congrArg₂ (· * ·) (blk1 m c t0_0 q _) (blk2 m c t0_0 q _))
  refine congrArg (fun f => deq f _) ?_
  funext l
  exact blk0 m c t0_0 _ _

end Cert.FwdRefIdeal.Gen
-- ==== Proof.FwdPair.lean ====
/- Kernel and reference leave equal logits: both are the same function of the arguments. -/
module

public import proofs.«01_k».proof.Proof.Fwd.Blocks
public import proofs.«01_k».proof.Proof.FwdRef.Pay
public import proofs.«01_k».proof.Defs

@[expose] public section

set_option maxRecDepth 16384

noncomputable section

namespace Cert.Proof

open Idealize.ShloMosaic Idealize.SL.Sem

section
open Cert.FwdIdeal.Gen

variable (m : (ℓ : Loc Cert.FwdIdeal.nD Cert.FwdIdeal.τ Cert.FwdIdeal.sig) → Buf (Elt Ideal) ℓ)
  (m' : (ℓ : Loc Cert.FwdRefIdeal.nD Cert.FwdRefIdeal.τ Cert.FwdRefIdeal.sig) → Buf (Elt Ideal) ℓ) (c : Dev Cert.FwdIdeal.nD)
  (h0 : Cert.FwdRefIdeal.Gen.aH m' c = aH m c) (h1 : Cert.FwdRefIdeal.Gen.aG m' c = aG m c)
  (h3 : Cert.FwdRefIdeal.Gen.aC m' c = aC m c) (h4 : Cert.FwdRefIdeal.Gen.aS m' c = aS m c)
include h0 h1 h3 h4

/-- Both leave the same logits. -/
theorem logits_pair : (Cert.FwdRefIdeal.Gen.dats m' 0 c).arrAt 3 Cert.FwdRefIdeal.cfg0.N = (dats m 0 c).arrAt 7 Cert.FwdIdeal.cfg0.N := by
  refine (Cert.FwdRefIdeal.Gen.final_logits m' c).trans (Eq.trans ?_ (final_logits m c).symm)
  rw [h0, h1, h3, h4]
end

set_option maxHeartbeats 1600000 in
/-- The ideal kernel and the ideal reference, given equal arguments, leave equal logits. -/
theorem algebraicFwd : Cert.algebraic_FwdIdeal_FwdRefIdeal := by
  pair_intro
  · exact Cert.FwdIdeal.Value.run_blocks m g
  · run_from Cert.FwdRefIdeal.Gen.run_main m' g'
    obtain ⟨h0, h1, h2, h3, h4⟩ := hagree c
    exact logits_pair m m' c h0 h1 h3 h4

end Cert.Proof
-- ==== Proof.lean ====
/- The ten claims, of the forward sweep and of the gradient sweep: each kernel, its idealised form and its reference run and
   leave their arguments as they were, the idealised kernel is the kernel with its named constants, and its results equal the
   reference's. -/
module

public import proofs.«01_k».proof.Defs
public import proofs.«01_k».proof.Proof.Gen.Bwd
public import proofs.«01_k».proof.Proof.Gen.BwdIdeal
public import proofs.«01_k».proof.Proof.Gen.BwdRefIdeal
public import proofs.«01_k».proof.Proof.Gen.Fwd
public import proofs.«01_k».proof.Proof.Gen.FwdIdeal
public import proofs.«01_k».proof.Proof.Gen.FwdRefIdeal
public import proofs.«01_k».proof.Proof.Bwd.Plain
public import proofs.«01_k».proof.Proof.Fwd.Plain
public import proofs.«01_k».proof.Proof.Pair
public import proofs.«01_k».proof.Proof.FwdPair
public import Idealize.ShloMosaic.Adequacy
public import Idealize.ShloMosaic.Init

@[expose] public section

noncomputable section

namespace Cert.Proof

open Idealize.ShloMosaic Idealize.SL.Sem

/-- All the claims. -/
theorem claim : Cert.Claim := ⟨Cert.Bwd.Gen.facts, Cert.BwdIdeal.Gen.facts, Cert.BwdRefIdeal.Gen.facts,
  Cert.Fwd.Gen.facts, Cert.FwdIdeal.Gen.facts, Cert.FwdRefIdeal.Gen.facts,
  fun m g _ => Cert.Bwd.Gen.frame m g, fun m g _ => Cert.BwdIdeal.Gen.frame m g, fun m g _ => Cert.BwdRefIdeal.Gen.frame m g,
  fun m g _ => Cert.Fwd.Gen.frame m g, fun m g _ => Cert.FwdIdeal.Gen.frame m g, fun m g _ => Cert.FwdRefIdeal.Gen.frame m g,
  IdealRules.named_const.statement _ _ _ _ _ rfl, algebraic,
  ⟨IdealRules.named_const.statement _ _ _ _ _ rfl, IdealRules.named_const.statement _ _ _ _ _ rfl⟩, algebraicFwd⟩

end Cert.Proof

end
